-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![64, 64, 64]⟩ ⟨3, ![128, 128, 256]⟩ (Layout.meshBlock [2, 2, 4] ![[0], [1], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![64, 64, 64]⟩ ⟨3, ![128, 128, 256]⟩ (Layout.meshBlock [2, 2, 4] ![[0], [1], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x64x64 : Shape := ⟨3, ![64, 64, 64]⟩
abbrev S6x64x64 : Shape := ⟨3, ![6, 64, 64]⟩
abbrev S6 : Shape := ⟨1, ![6]⟩
abbrev S1x64x64 : Shape := ⟨3, ![1, 64, 64]⟩
abbrev S64x64 : Shape := ⟨2, ![64, 64]⟩
abbrev S64x1x64 : Shape := ⟨3, ![64, 1, 64]⟩
abbrev S64x64x1 : Shape := ⟨3, ![64, 64, 1]⟩
abbrev S_ : Shape := ⟨0, ![]⟩
abbrev S1 : Shape := ⟨1, ![1]⟩
abbrev S63x64x64 : Shape := ⟨3, ![63, 64, 64]⟩
abbrev S64x63x64 : Shape := ⟨3, ![64, 63, 64]⟩
abbrev S64x64x63 : Shape := ⟨3, ![64, 64, 63]⟩

abbrev nBuf : Space → Nat
  | .hbm => 2
  | .vmem => 4
  | .smem => 0
  | _ => 0

abbrev bufTy : (tb : Table) → Fin (tcTables nBuf tb) → BufTy
  | .hbm, ⟨0, _⟩ => ⟨S64x64x64, .f32⟩
  | .hbm, ⟨1, _⟩ => ⟨S64x64x64, .f32⟩
  | .local _ .vmem, ⟨0, _⟩ => ⟨S64x64x64, .f32⟩
  | .local _ .vmem, ⟨1, _⟩ => ⟨S64x64x64, .f32⟩
  | .local _ .vmem, ⟨2, _⟩ => ⟨S6x64x64, .f32⟩
  | .local _ .vmem, ⟨3, _⟩ => ⟨S6x64x64, .f32⟩
  | _, _ => ⟨S64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_17 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.subi c1_i32_14 v2
  let c8_i32_16 : BitVec 32 := 8#32
  let v33 : BitVec 32 := Scalar.muli v32 c8_i32_16
  let v34 : BitVec 32 := Scalar.addi c0_i32_17 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_18 : BitVec 32 := 4#32
  let v35 : BitVec 32 := Scalar.muli v5 c4_i32_18
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v37 : BitVec 32 := Scalar.muli v8 c1_i32_19
  let v38 : BitVec 32 := Scalar.addi v36 v37
  v38.toNat
def k0_dev2 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v40 : BitVec 32 := Scalar.muli v2 c8_i32_22
  let v41 : BitVec 32 := Scalar.addi c0_i32_23 v40
  let c1_i32_20 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v39 : BitVec 32 := Scalar.subi c1_i32_20 v5
  let c4_i32_24 : BitVec 32 := 4#32
  let v42 : BitVec 32 := Scalar.muli v39 c4_i32_24
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v44 : BitVec 32 := Scalar.muli v8 c1_i32_25
  let v45 : BitVec 32 := Scalar.addi v43 v44
  v45.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_26 : BitVec 32 := 0#32
  let v46 : BitVec 1 := Scalar.cmpi .sgt v8 c0_i32_26
  let v47 : BitVec 32 := Scalar.extui v46
  let c0_i32_27 : BitVec 32 := 0#32
  let v48 : BitVec 1 := Scalar.cmpi .ne v47 c0_i32_27
  v48

def k0_dev3 (d0 : Dev nD) : Nat :=
  let c0_i32_144 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_143 : BitVec 32 := 8#32
  let v207 : BitVec 32 := Scalar.muli v2 c8_i32_143
  let v208 : BitVec 32 := Scalar.addi c0_i32_144 v207
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_145 : BitVec 32 := 4#32
  let v209 : BitVec 32 := Scalar.muli v5 c4_i32_145
  let v210 : BitVec 32 := Scalar.addi v208 v209
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_141 : BitVec 32 := 1#32
  let v206 : BitVec 32 := Scalar.subi v8 c1_i32_141
  let c1_i32_146 : BitVec 32 := 1#32
  let v211 : BitVec 32 := Scalar.muli v206 c1_i32_146
  let v212 : BitVec 32 := Scalar.addi v210 v211
  v212.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_28 : BitVec 32 := 3#32
  let v49 : BitVec 1 := Scalar.cmpi .slt v8 c3_i32_28
  let v50 : BitVec 32 := Scalar.extui v49
  let c0_i32_29 : BitVec 32 := 0#32
  let v51 : BitVec 1 := Scalar.cmpi .ne v50 c0_i32_29
  v51

def k0_dev4 (d0 : Dev nD) : Nat :=
  let c0_i32_144 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_143 : BitVec 32 := 8#32
  let v207 : BitVec 32 := Scalar.muli v2 c8_i32_143
  let v208 : BitVec 32 := Scalar.addi c0_i32_144 v207
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_145 : BitVec 32 := 4#32
  let v209 : BitVec 32 := Scalar.muli v5 c4_i32_145
  let v210 : BitVec 32 := Scalar.addi v208 v209
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_141 : BitVec 32 := 1#32
  let v206 : BitVec 32 := Scalar.addi v8 c1_i32_141
  let c1_i32_146 : BitVec 32 := 1#32
  let v211 : BitVec 32 := Scalar.muli v206 c1_i32_146
  let v212 : BitVec 32 := Scalar.addi v210 v211
  v212.toNat
def k0_cond10 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_34 : BitVec 32 := 0#32
  let v57 : BitVec 1 := Scalar.cmpi .eq v2 c0_i32_34
  let v58 : BitVec 32 := Scalar.extui v57
  let c0_i32_35 : BitVec 32 := 0#32
  let v59 : BitVec 1 := Scalar.cmpi .ne v58 c0_i32_35
  v59

def k0_dev5 (d0 : Dev nD) : Nat :=
  let c0_i32_147 : BitVec 32 := 0#32
  let c1_i32_145 : BitVec 32 := 1#32
  let c8_i32_146 : BitVec 32 := 8#32
  let v206 : BitVec 32 := Scalar.muli c1_i32_145 c8_i32_146
  let v207 : BitVec 32 := Scalar.addi c0_i32_147 v206
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_148 : BitVec 32 := 4#32
  let v208 : BitVec 32 := Scalar.muli v5 c4_i32_148
  let v209 : BitVec 32 := Scalar.addi v207 v208
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v210 : BitVec 32 := Scalar.muli v8 c1_i32_149
  let v211 : BitVec 32 := Scalar.addi v209 v210
  v211.toNat
def k0_cond11 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_36 : BitVec 32 := 1#32
  let v60 : BitVec 1 := Scalar.cmpi .eq v2 c1_i32_36
  let v61 : BitVec 32 := Scalar.extui v60
  let c0_i32_37 : BitVec 32 := 0#32
  let v62 : BitVec 1 := Scalar.cmpi .ne v61 c0_i32_37
  v62

def k0_dev6 (d0 : Dev nD) : Nat :=
  let c0_i32_147 : BitVec 32 := 0#32
  let c0_i32_145 : BitVec 32 := 0#32
  let c8_i32_146 : BitVec 32 := 8#32
  let v206 : BitVec 32 := Scalar.muli c0_i32_145 c8_i32_146
  let v207 : BitVec 32 := Scalar.addi c0_i32_147 v206
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_148 : BitVec 32 := 4#32
  let v208 : BitVec 32 := Scalar.muli v5 c4_i32_148
  let v209 : BitVec 32 := Scalar.addi v207 v208
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v210 : BitVec 32 := Scalar.muli v8 c1_i32_149
  let v211 : BitVec 32 := Scalar.addi v209 v210
  v211.toNat
def k0_cond12 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_38 : BitVec 32 := 0#32
  let v63 : BitVec 1 := Scalar.cmpi .eq v5 c0_i32_38
  let v64 : BitVec 32 := Scalar.extui v63
  let c0_i32_39 : BitVec 32 := 0#32
  let v65 : BitVec 1 := Scalar.cmpi .ne v64 c0_i32_39
  v65

def k0_dev7 (d0 : Dev nD) : Nat :=
  let c0_i32_147 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_146 : BitVec 32 := 8#32
  let v206 : BitVec 32 := Scalar.muli v2 c8_i32_146
  let v207 : BitVec 32 := Scalar.addi c0_i32_147 v206
  let c1_i32_145 : BitVec 32 := 1#32
  let c4_i32_148 : BitVec 32 := 4#32
  let v208 : BitVec 32 := Scalar.muli c1_i32_145 c4_i32_148
  let v209 : BitVec 32 := Scalar.addi v207 v208
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v210 : BitVec 32 := Scalar.muli v8 c1_i32_149
  let v211 : BitVec 32 := Scalar.addi v209 v210
  v211.toNat
def k0_cond13 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_40 : BitVec 32 := 1#32
  let v66 : BitVec 1 := Scalar.cmpi .eq v5 c1_i32_40
  let v67 : BitVec 32 := Scalar.extui v66
  let c0_i32_41 : BitVec 32 := 0#32
  let v68 : BitVec 1 := Scalar.cmpi .ne v67 c0_i32_41
  v68

def k0_dev8 (d0 : Dev nD) : Nat :=
  let c0_i32_147 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_146 : BitVec 32 := 8#32
  let v206 : BitVec 32 := Scalar.muli v2 c8_i32_146
  let v207 : BitVec 32 := Scalar.addi c0_i32_147 v206
  let c0_i32_145 : BitVec 32 := 0#32
  let c4_i32_148 : BitVec 32 := 4#32
  let v208 : BitVec 32 := Scalar.muli c0_i32_145 c4_i32_148
  let v209 : BitVec 32 := Scalar.addi v207 v208
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v210 : BitVec 32 := Scalar.muli v8 c1_i32_149
  let v211 : BitVec 32 := Scalar.addi v209 v210
  v211.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_42 : BitVec 32 := 3#32
  let v69 : BitVec 1 := Scalar.cmpi .slt v8 c3_i32_42
  let v70 : BitVec 32 := Scalar.extui v69
  let c0_i32_43 : BitVec 32 := 0#32
  let v71 : BitVec 1 := Scalar.cmpi .ne v70 c0_i32_43
  v71

def k0_dev9 (d0 : Dev nD) : Nat :=
  let c0_i32_147 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_146 : BitVec 32 := 8#32
  let v207 : BitVec 32 := Scalar.muli v2 c8_i32_146
  let v208 : BitVec 32 := Scalar.addi c0_i32_147 v207
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_148 : BitVec 32 := 4#32
  let v209 : BitVec 32 := Scalar.muli v5 c4_i32_148
  let v210 : BitVec 32 := Scalar.addi v208 v209
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_141 : BitVec 32 := 1#32
  let v206 : BitVec 32 := Scalar.addi v8 c1_i32_141
  let c1_i32_149 : BitVec 32 := 1#32
  let v211 : BitVec 32 := Scalar.muli v206 c1_i32_149
  let v212 : BitVec 32 := Scalar.addi v210 v211
  v212.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_44 : BitVec 32 := 0#32
  let v72 : BitVec 1 := Scalar.cmpi .sgt v8 c0_i32_44
  let v73 : BitVec 32 := Scalar.extui v72
  let c0_i32_45 : BitVec 32 := 0#32
  let v74 : BitVec 1 := Scalar.cmpi .ne v73 c0_i32_45
  v74

def k0_dev10 (d0 : Dev nD) : Nat :=
  let c0_i32_146 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_145 : BitVec 32 := 8#32
  let v207 : BitVec 32 := Scalar.muli v2 c8_i32_145
  let v208 : BitVec 32 := Scalar.addi c0_i32_146 v207
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_147 : BitVec 32 := 4#32
  let v209 : BitVec 32 := Scalar.muli v5 c4_i32_147
  let v210 : BitVec 32 := Scalar.addi v208 v209
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_141 : BitVec 32 := 1#32
  let v206 : BitVec 32 := Scalar.subi v8 c1_i32_141
  let c1_i32_148 : BitVec 32 := 1#32
  let v211 : BitVec 32 := Scalar.muli v206 c1_i32_148
  let v212 : BitVec 32 := Scalar.addi v210 v211
  v212.toNat
abbrev stage0_0 : Fin 1 → Memref sig .tc .vmem S64x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S128x128x256 : Shape := ⟨3, ![128, 128, 256]⟩
abbrev S_ : Shape := ⟨0, ![]⟩
abbrev S126x126x254 : Shape := ⟨3, ![126, 126, 254]⟩
abbrev S1 : Shape := ⟨1, ![1]⟩
abbrev S3 : Shape := ⟨1, ![3]⟩

abbrev nBuf : Space → Nat
  | .hbm => 27
  | .vmem => 0
  | .smem => 0
  | _ => 0

abbrev bufTy : (tb : Table) → Fin (tcTables nBuf tb) → BufTy
  | .hbm, ⟨0, _⟩ => ⟨S128x128x256, .f32⟩
  | .hbm, ⟨1, _⟩ => ⟨S_, .f32⟩
  | .hbm, ⟨2, _⟩ => ⟨S128x128x256, .f32⟩
  | .hbm, ⟨3, _⟩ => ⟨S126x126x254, .f32⟩
  | .hbm, ⟨4, _⟩ => ⟨S126x126x254, .f32⟩
  | .hbm, ⟨5, _⟩ => ⟨S126x126x254, .f32⟩
  | .hbm, ⟨6, _⟩ => ⟨S126x126x254, .f32⟩
  | .hbm, ⟨7, _⟩ => ⟨S126x126x254, .f32⟩
  | .hbm, ⟨8, _⟩ => ⟨S126x126x254, .f32⟩
  | .hbm, ⟨9, _⟩ => ⟨S126x126x254, .f32⟩
  | .hbm, ⟨10, _⟩ => ⟨S126x126x254, .f32⟩
  | .hbm, ⟨11, _⟩ => ⟨S126x126x254, .f32⟩
  | .hbm, ⟨12, _⟩ => ⟨S126x126x254, .f32⟩
  | .hbm, ⟨13, _⟩ => ⟨S126x126x254, .f32⟩
  | .hbm, ⟨14, _⟩ => ⟨S126x126x254, .f32⟩
  | .hbm, ⟨15, _⟩ => ⟨S_, .f32⟩
  | .hbm, ⟨16, _⟩ => ⟨S126x126x254, .f32⟩
  | .hbm, ⟨17, _⟩ => ⟨S126x126x254, .f32⟩
  | .hbm, ⟨18, _⟩ => ⟨S126x126x254, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S3, .i32⟩
  | .hbm, ⟨26, _⟩ => ⟨S128x128x256, .f32⟩
  | _, _ => ⟨S128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_c_1 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Proof.Mesh.lean ====
/-
The mesh of sixteen devices, the six faces of a block, and the cells of the protocol.

A device holds one block of the array. Face `s : Fin 6` names a message: 0 goes up in x, 1 down in x, 2 up in y,
3 down in y, 4 up in z, 5 down in z. A device sends message `s` when it has a neighbour there (`has s c`), to the
device `peer s c`, and the neighbour's message back is `op s`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Where a device stands, and its neighbours -/

/-- The three coordinates of a device. -/
def cx (c : Dev nD) : ℕ := c.val / 8
def cy (c : Dev nD) : ℕ := c.val / 4 % 2
def cz (c : Dev nD) : ℕ := c.val % 4

/-- Device `c` has a neighbour to send message `s` to. -/
def has (s : Fin 6) (c : Dev nD) : Prop := match s with
  | 0 => cx c = 0 | 1 => cx c = 1 | 2 => cy c = 0 | 3 => cy c = 1 | 4 => cz c < 3 | 5 => 0 < cz c

instance (s : Fin 6) (c : Dev nD) : Decidable (has s c) := by
  unfold has; split <;> infer_instance

/-- The message that answers message `s`. -/
def op (s : Fin 6) : Fin 6 := match s with | 0 => 1 | 1 => 0 | 2 => 3 | 3 => 2 | 4 => 5 | 5 => 4

set_option backward.proofsInPublic true in
/-- Where message `s` of device `c` goes (round the axis, so that this is a permutation of the devices for every `s`). -/
def peer (s : Fin 6) (c : Dev nD) : Dev nD := match s with
  | 0 | 1 => ⟨(c.val + 8) % 16, Nat.mod_lt _ (by decide)⟩
  | 2 | 3 => ⟨c.val / 8 * 8 + (c.val % 8 + 4) % 8, by have := c.isLt; change c.val < 16 at this; change _ < 16; omega⟩
  | 4 => ⟨c.val / 4 * 4 + (c.val % 4 + 1) % 4, by have := c.isLt; change c.val < 16 at this; change _ < 16; omega⟩
  | 5 => ⟨c.val / 4 * 4 + (c.val % 4 + 3) % 4, by have := c.isLt; change c.val < 16 at this; change _ < 16; omega⟩

theorem op_op (s : Fin 6) : op (op s) = s := by revert s; decide
theorem op_ne (s : Fin 6) : op s ≠ s := by revert s; decide
theorem peer_peer (s : Fin 6) (c : Dev nD) : peer (op s) (peer s c) = c := by revert s c; decide
theorem peer_peer' (s : Fin 6) (c : Dev nD) : peer s (peer (op s) c) = c := by revert s c; decide
theorem has_peer (s : Fin 6) (c : Dev nD) : has (op s) (peer s c) ↔ has s c := by revert s c; decide
theorem has_peer' (s : Fin 6) (c : Dev nD) : has s (peer (op s) c) ↔ has (op s) c := by revert s c; decide

/-- How many neighbours a device has. -/
def cnt (c : Dev nD) : ℕ := (Finset.univ.filter fun s => has s c).card

/-- The message a device sends along x, and along y: it has exactly one of the two neighbours there. -/
def sx (c : Dev nD) : Fin 6 := if cx c = 0 then 0 else 1
def sy (c : Dev nD) : Fin 6 := if cy c = 0 then 2 else 3
theorem has_sx (c : Dev nD) : has (sx c) c := by revert c; decide
theorem has_sy (c : Dev nD) : has (sy c) c := by revert c; decide

/-! ## The kernel's device chains and conditions -/

theorem dev1_eq (c : Dev nD) : (⟨k0_dev1 c, k0_dev1_lt c⟩ : Dev nD) = peer (sx c) c := by revert c; decide
theorem dev2_eq (c : Dev nD) : (⟨k0_dev2 c, k0_dev2_lt c⟩ : Dev nD) = peer (sy c) c := by revert c; decide
theorem dev3_eq (c : Dev nD) (h : k0_cond7 c = 1#1) : (⟨k0_dev3 c, k0_dev3_lt c h⟩ : Dev nD) = peer 5 c := by revert c; decide
theorem dev4_eq (c : Dev nD) (h : k0_cond8 c = 1#1) : (⟨k0_dev4 c, k0_dev4_lt c h⟩ : Dev nD) = peer 4 c := by revert c; decide
theorem dev5_eq (c : Dev nD) (h : k0_cond10 c = 1#1) : (⟨k0_dev5 c, k0_dev5_lt c h⟩ : Dev nD) = peer 0 c := by revert c; decide
theorem dev6_eq (c : Dev nD) (h : k0_cond11 c = 1#1) : (⟨k0_dev6 c, k0_dev6_lt c h⟩ : Dev nD) = peer 1 c := by revert c; decide
theorem dev7_eq (c : Dev nD) (h : k0_cond12 c = 1#1) : (⟨k0_dev7 c, k0_dev7_lt c h⟩ : Dev nD) = peer 2 c := by revert c; decide
theorem dev8_eq (c : Dev nD) (h : k0_cond13 c = 1#1) : (⟨k0_dev8 c, k0_dev8_lt c h⟩ : Dev nD) = peer 3 c := by revert c; decide
theorem dev9_eq (c : Dev nD) (h : k0_cond14 c = 1#1) : (⟨k0_dev9 c, k0_dev9_lt c h⟩ : Dev nD) = peer 4 c := by revert c; decide
theorem dev10_eq (c : Dev nD) (h : k0_cond15 c = 1#1) : (⟨k0_dev10 c, k0_dev10_lt c h⟩ : Dev nD) = peer 5 c := by revert c; decide

theorem cond7_iff (c : Dev nD) : k0_cond7 c = 1#1 ↔ has 5 c := by revert c; decide
theorem cond8_iff (c : Dev nD) : k0_cond8 c = 1#1 ↔ has 4 c := by revert c; decide
theorem cond10_iff (c : Dev nD) : k0_cond10 c = 1#1 ↔ has 0 c := by revert c; decide
theorem cond11_iff (c : Dev nD) : k0_cond11 c = 1#1 ↔ has 1 c := by revert c; decide
theorem cond12_iff (c : Dev nD) : k0_cond12 c = 1#1 ↔ has 2 c := by revert c; decide
theorem cond13_iff (c : Dev nD) : k0_cond13 c = 1#1 ↔ has 3 c := by revert c; decide
theorem cond14_iff (c : Dev nD) : k0_cond14 c = 1#1 ↔ has 4 c := by revert c; decide
theorem cond15_iff (c : Dev nD) : k0_cond15 c = 1#1 ↔ has 5 c := by revert c; decide

/-- The words the kernel computes for its coordinates. -/
def wx (c : Dev nD) : BitVec 32 := Scalar.remsi (Scalar.divsi (Dev.word c) 8#32) 2#32
def wy (c : Dev nD) : BitVec 32 := Scalar.remsi (Scalar.divsi (Dev.word c) 4#32) 2#32
def wz (c : Dev nD) : BitVec 32 := Scalar.remsi (Scalar.divsi (Dev.word c) 1#32) 4#32

/-- A comparison as the kernel tests it. -/
abbrev tst (p : CmpIPredicate) (a b : BitVec 32) : BitVec 1 := Scalar.cmpi .ne (Scalar.extui (Scalar.cmpi p a b) : BitVec 32) 0#32

theorem wx0 (c : Dev nD) : tst .eq (wx c) 0#32 = 1#1 ↔ has 0 c := by revert c; decide
theorem wx1 (c : Dev nD) : tst .eq (wx c) 1#32 = 1#1 ↔ has 1 c := by revert c; decide
theorem wy0 (c : Dev nD) : tst .eq (wy c) 0#32 = 1#1 ↔ has 2 c := by revert c; decide
theorem wy1 (c : Dev nD) : tst .eq (wy c) 1#32 = 1#1 ↔ has 3 c := by revert c; decide
theorem wzlt (c : Dev nD) : tst .slt (wz c) 3#32 = 1#1 ↔ has 4 c := by revert c; decide
theorem wzgt (c : Dev nD) : tst .sgt (wz c) 0#32 = 1#1 ↔ has 5 c := by revert c; decide
theorem wz0 (c : Dev nD) : tst .eq (wz c) 0#32 = 1#1 ↔ ¬ has 5 c := by revert c; decide
theorem wz3 (c : Dev nD) : tst .eq (wz c) 3#32 = 1#1 ↔ ¬ has 4 c := by revert c; decide

/-! ## The memrefs, the semaphores and the cells -/

abbrev xM : Memref sig .tc .vmem S64x64x64 .f32 := Memref.whole cc0_stg0_0
abbrev oM : Memref sig .tc .vmem S64x64x64 .f32 := Memref.whole cc0_stg1_0
abbrev sM : Memref sig .tc .vmem S6x64x64 .f32 := Memref.whole cc0_scratch0
abbrev hM : Memref sig .tc .vmem S6x64x64 .f32 := Memref.whole cc0_scratch1

/-- Slot `s` of the six planes lies inside them. -/
theorem inbSlot (s : Fin 6) : ∀ a, (![(s : ℕ), 0, 0] : Fin 3 → ℕ) a + S1x64x64.size a ≤ S6x64x64.size a := by
  intro a; fin_cases a
  · have := s.isLt; simp [S1x64x64, S6x64x64]; omega
  · simp [S1x64x64, S6x64x64]
  · simp [S1x64x64, S6x64x64]

/-- The rectangle of slot `s`, and the plane of a scratch buffer that it is. -/
abbrev rSlot (s : Fin 6) : Rect S6x64x64 := Rect.unit (s := S6x64x64) ![(s : ℕ), 0, 0] S1x64x64.size (inbSlot s)
abbrev slot (b : Memref sig .tc .vmem S6x64x64 .f32) (s : Fin 6) : Memref sig .tc .vmem S64x64 .f32 :=
  (b.slice (rSlot s) (fun _ => rfl)).squeeze S64x64 squeezes_S1x64x64_S64x64

theorem inbSem (s : Fin 6) : ∀ a, (![(s : ℕ)] : Fin 1 → ℕ) a + S1.size a ≤ S6.size a := by
  intro a; fin_cases a
  have := s.isLt; simp [S1, S6]; omega

/-- The runtime's barrier semaphore; the six send and the six receive semaphores. -/
abbrev barS : Sem sig := (SemArray.scalar (sig.barrier 0 rfl) : Sems sig S_).sem
abbrev sndS (s : Fin 6) : DmaSem sig := ((cc0_scratch2.slice (Rect.unit (s := S6) ![(s : ℕ)] S1.size (inbSem s))).squeeze S_ squeezes_S1_S_).sem
abbrev rcvS (s : Fin 6) : DmaSem sig := ((cc0_scratch3.slice (Rect.unit (s := S6) ![(s : ℕ)] S1.size (inbSem s))).squeeze S_ squeezes_S1_S_).sem

/-- The thirteen cells of a device: its barrier (`none`), send cell `s` (`some (false, s)`), receive cell `s`. -/
abbrev Ck : Type := Option (Bool × Fin 6)

def csem : Ck → SemLoc sig
  | none => .reg barS
  | some (false, s) => .dma (sndS s)
  | some (true, s) => .dma (rcvS s)

/-- Which of the thirteen a semaphore is. -/
def dec : SemLoc sig → Option Ck := fun sm => (([none] : List Ck) ++ (List.finRange 6).map (fun s => some (false, s)) ++ (List.finRange 6).map (fun s => some (true, s))).find? fun k => csem k = sm

theorem dec_csem (k : Ck) : dec (csem k) = some k := by revert k; decide
theorem csem_injective : Function.Injective csem := fun a b h => by
  have := congrArg dec h; rw [dec_csem, dec_csem] at this; exact Option.some.inj this

example : sndS 3 = (5 : Fin 14) := by decide
example : rcvS 3 = (11 : Fin 14) := by decide

abbrev cell (c : Dev nD) (k : Ck) : GSem nD τ sig := ((c : Thread nD τ), csem k)
abbrev barCell (c : Dev nD) : GSem nD τ sig := ((c : Thread nD τ), .reg barS)
abbrev sndCell (s : Fin 6) (c : Dev nD) : GSem nD τ sig := ((c : Thread nD τ), .dma (sndS s))
abbrev rcvCell (s : Fin 6) (c : Dev nD) : GSem nD τ sig := ((c : Thread nD τ), .dma (rcvS s))

theorem cell_inj {a b : Dev nD} {k j : Ck} (h : cell a k = cell b j) : a = b ∧ k = j :=
  ⟨congrArg (fun g : GSem nD τ sig => g.1.1) h, csem_injective (congrArg Prod.snd h)⟩

/-- The credit of one plane. -/
abbrev N : ℕ := (slot hM 0).view.dmaCredit
theorem N_pos : 0 < N := View.dmaCredit_pos _ (by decide)
theorem N_snd (s t : Fin 6) : (slot sM s).view.amount (.dma (rcvS t)) = N := rfl
theorem N_rcv (s t : Fin 6) : (slot hM s).view.amount (.dma (rcvS t)) = N := rfl

end Cert.Halo

end
-- ==== Proof.Planes.lean ====
/-
The six planes of a scratch buffer: what a slot reads and writes, and the planes a device packs and receives.
-/
module

public import proofs.«01_k».proof.Proof.Mesh
public import Idealize.ShloMosaic.Lib.ValueIdxCore

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The elements of a slot -/

/-- An index lies in slot `s` exactly when its first coordinate is `s`. -/
theorem mem_slot (s : Fin 6) (i : S6x64x64.Idx) : i ∈ (rSlot s).set ↔ i 0 = s := by
  rw [Rect.mem_set_unit]
  constructor
  · intro h
    have h0 := h 0
    simp [S1x64x64] at h0
    exact Fin.ext (by omega)
  · intro h a
    have ha := (i a).isLt
    fin_cases a
    · have := congrArg Fin.val h
      simp [S1x64x64] at this ⊢; omega
    · simp [S1x64x64, S6x64x64] at ha ⊢; omega
    · simp [S1x64x64, S6x64x64] at ha ⊢; omega

theorem set_slot_s (s : Fin 6) : (slot sM s).view.set = (rSlot s).set :=
  (View.set_reshape _ _).trans (View.set_slice_whole _ _)
theorem set_slot_h (s : Fin 6) : (slot hM s).view.set = (rSlot s).set :=
  (View.set_reshape _ _).trans (View.set_slice_whole _ _)

/-- Two slots share no element. -/
theorem slot_disjoint (s t : Fin 6) (h : s ≠ t) : Disjoint (rSlot s).set (rSlot t).set :=
  Finset.disjoint_left.mpr fun i hi hj => h (((mem_slot s i).mp hi).symm.trans ((mem_slot t i).mp hj))

/-- The six slots are the buffer. -/
theorem slot_union : (Finset.univ : Finset (Fin 6)).biUnion (fun s => (rSlot s).set) = Finset.univ :=
  Finset.eq_univ_of_forall fun i => Finset.mem_biUnion.mpr ⟨i 0, Finset.mem_univ _, (mem_slot _ i).mpr rfl⟩

/-! ## Contents given plane by plane -/

/-- The buffer whose slot `s` is the plane `w s`. -/
def slotc (w : Fin 6 → FVec F S1x64x64 .f32) : Vec F S6x64x64 .f32 :=
  fun i => w (i 0) (ValueIdx.ix3 (0 : Fin 1) (i 1 : Fin 64) (i 2 : Fin 64))

/-- Slot `s` of it reads `w s`. -/
theorem readAt_slotc (w : Fin 6 → FVec F S1x64x64 .f32) (s : Fin 6) :
    (hM : Memref sig .tc .vmem S6x64x64 .f32).view.readAt (Elt F) (rSlot s).toLoadRect (slotc w) = w s := by
  funext x
  have h0 : ((rSlot s).toLoadRect.idx x : S6x64x64.Idx) 0 = s := Fin.ext (by
    have := (x 0).isLt
    simp [S1x64x64] at this
    simp [LoadRect.idx]; omega)
  show slotc w ((rSlot s).toLoadRect.idx x) = _
  unfold slotc
  rw [h0]
  congr 1
  funext a
  have := (x a).isLt
  fin_cases a
  · apply Fin.ext; simp [S1x64x64] at this ⊢; omega
  · apply Fin.ext; simp [LoadRect.idx]
  · apply Fin.ext; simp [LoadRect.idx]

/-- Storing the plane `w s` through slot `s`'s rectangle gives, on that slot, the contents `slotc w`. -/
theorem write_slotc (w : Fin 6 → FVec F S1x64x64 .f32) (s : Fin 6) (f : Vec F S6x64x64 .f32) :
    ∀ i ∈ (rSlot s).set, ((sM : Memref sig .tc .vmem S6x64x64 .f32).access (rSlot s)).write (Elt F) f (w s) Finset.univ i = slotc w i := by
  intro i hi
  rw [← Rect.map_emb_univ] at hi
  obtain ⟨x, -, rfl⟩ := Finset.mem_map.mp hi
  have h1 := View.write_emb_of_mem (v := (sM : Memref sig .tc .vmem S6x64x64 .f32).access (rSlot s)) (Val := Elt F) f (w s)
    (M := Finset.univ) (x := x) (Finset.mem_univ _)
  refine h1.trans ?_
  rw [cast_eq]
  exact (congrFun (readAt_slotc w s) x).symm

/-- Copying slot `s` of one scratch buffer into slot `s` of the other carries the elements over unchanged. -/
theorem copy_slot (s : Fin 6) (fd fs : Vec F S6x64x64 .f32) :
    ∀ i ∈ (rSlot s).set, (slot hM s).view.write (Elt F) fd ((slot sM s).view.read (Elt F) fs) Finset.univ i = fs i := by
  intro i hi
  rw [← set_slot_h] at hi
  obtain ⟨x, -, rfl⟩ := Finset.mem_map.mp hi
  rw [View.write_emb_of_mem _ _ (Finset.mem_univ x), View.read_apply, cast_cast, cast_eq]
  rfl

/-- On slot `s`, contents given plane by plane depend on plane `s` only. -/
theorem slotc_congr (w w' : Fin 6 → FVec F S1x64x64 .f32) (s : Fin 6) (h : w s = w' s) :
    ∀ i ∈ (rSlot s).set, slotc w i = slotc w' i := by
  intro i hi
  have := (mem_slot s i).mp hi
  unfold slotc; rw [this, h]

/-! ## The planes of a block -/

/-- The plane of zeros. -/
def zpl : FVec F S1x64x64 .f32 := fun _ => Scalar.ofBits .f32 0x00000000#32

/-- What a device packs for message `s` out of its block `x`: the block's face on that side. -/
def pk (x : Vec F S64x64x64 .f32) : Fin 6 → FVec F S1x64x64 .f32
  | 0 => k0_pay4 ((xM : Memref sig .tc .vmem S64x64x64 .f32).view.readAt (Elt F) (Rect.unit (s := S64x64x64) ![63, 0, 0] S1x64x64.size inb_S64x64x64_S1x64x64_63_0_0).toLoadRect x)
  | 1 => k0_pay5 ((xM : Memref sig .tc .vmem S64x64x64 .f32).view.readAt (Elt F) (Rect.unit (s := S64x64x64) ![0, 0, 0] S1x64x64.size inb_S64x64x64_S1x64x64_0_0_0).toLoadRect x)
  | 2 => k0_pay6 ((xM : Memref sig .tc .vmem S64x64x64 .f32).view.readAt (Elt F) (Rect.unit (s := S64x64x64) ![0, 63, 0] S64x1x64.size inb_S64x64x64_S64x1x64_0_63_0).toLoadRect x)
  | 3 => k0_pay7 ((xM : Memref sig .tc .vmem S64x64x64 .f32).view.readAt (Elt F) (Rect.unit (s := S64x64x64) ![0, 0, 0] S64x1x64.size inb_S64x64x64_S64x1x64_0_0_0).toLoadRect x)
  | 4 => k0_pay8 ((xM : Memref sig .tc .vmem S64x64x64 .f32).view.readAt (Elt F) (Rect.unit (s := S64x64x64) ![0, 0, 63] S64x64x1.size inb_S64x64x64_S64x64x1_0_0_63).toLoadRect x)
  | 5 => k0_pay9 ((xM : Memref sig .tc .vmem S64x64x64 .f32).view.readAt (Elt F) (Rect.unit (s := S64x64x64) ![0, 0, 0] S64x64x1.size inb_S64x64x64_S64x64x1_0_0_0).toLoadRect x)

/-- The stored zeros, plane by plane. -/
theorem pay3_eq : (k0_pay3 : FVec F S6x64x64 .f32) = slotc (fun _ => zpl) := rfl

/-- What device `c` has received when every message has arrived, given the devices' blocks: in slot `s` the plane its
    neighbour on that side packed, and zeros where it has no neighbour. -/
def got (x : Dev nD → Vec F S64x64x64 .f32) (c : Dev nD) : Fin 6 → FVec F S1x64x64 .f32 :=
  fun s => if has (op s) c then pk (x (peer (op s) c)) s else zpl

/-- What arrives at the far end of message `s` is what was packed for it. -/
theorem got_peer (x : Dev nD → Vec F S64x64x64 .f32) (s : Fin 6) (c : Dev nD) (h : has s c) : pk (x c) s = got x (peer s c) s := by
  unfold got; rw [if_pos ((has_peer s c).mpr h), peer_peer s c]

theorem got_none (x : Dev nD → Vec F S64x64x64 .f32) (s : Fin 6) (c : Dev nD) (h : ¬ has (op s) c) : got x c s = zpl := if_neg h

end Cert.Halo

end
-- ==== Proof.Schedule.lean ====
/-
The protocol: which messages each cell waits for, what each carries, what a device owes, and the order of the waits.
-/
module

public import proofs.«01_k».proof.Proof.Planes

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's, whose duties are the six messages -/

abbrev UB : Type := URounds (GSem nD τ sig) (Fin 6)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-- Device `c`'s block of the argument, as its staging buffer holds it. -/
def xs (c : Dev nD) : Vec F S64x64x64 .f32 :=
  (win0_0.blk (0 : Fin 1)).view.read (Elt F) (m ((c : Thread nD τ).loc main_arg0))

/-- The send buffer with every plane packed, the halo buffer as first stored, and the halo buffer when every message has arrived. -/
def sal (c : Dev nD) : Vec F S6x64x64 .f32 := slotc (pk (xs m c))
def hz : Vec F S6x64x64 .f32 := slotc (fun _ => zpl)
def hal (c : Dev nD) : Vec F S6x64x64 .f32 := slotc (got (xs m) c)

/-- Slot `s` of device `c`'s send buffer, and of its halo buffer, holding `f`. -/
def spts (s : Fin 6) (c : Dev nD) (f : Vec F S6x64x64 .f32) : sProp 𝕄 :=
  ((c : Thread nD τ).loc cc0_scratch0) ↦[(rSlot s).set]{fullShare} (f : Buf (Elt F) ((c : Thread nD τ).loc cc0_scratch0))
def hpts (s : Fin 6) (c : Dev nD) (f : Vec F S6x64x64 .f32) : sProp 𝕄 :=
  ((c : Thread nD τ).loc cc0_scratch1) ↦[(rSlot s).set]{fullShare} (f : Buf (Elt F) ((c : Thread nD τ).loc cc0_scratch1))

omit [FloatOps F] in
instance spts_storable (s c) (f) : BI.Storable (upEmb : UEmb _ 𝕄) (spts (F := F) s c f) := by unfold spts; infer_instance
omit [FloatOps F] in
instance hpts_storable (s c) (f) : BI.Storable (upEmb : UEmb _ 𝕄) (hpts (F := F) s c f) := by unfold hpts; infer_instance

omit [FloatOps F] in
theorem spts_view (s : Fin 6) (c : Dev nD) (f : Vec F S6x64x64 .f32) :
    (spts s c f : sProp 𝕄) = (slot sM s).view.loc (c : Thread nD τ) ↦[(slot sM s).view.set]{fullShare} f :=
  congrArg (fun S : Finset S6x64x64.Idx => (((c : Thread nD τ).loc cc0_scratch0) ↦[S]{fullShare} (f : Buf (Elt F) ((c : Thread nD τ).loc cc0_scratch0)) : sProp 𝕄)) (set_slot_s s).symm
omit [FloatOps F] in
theorem hpts_view (s : Fin 6) (c : Dev nD) (f : Vec F S6x64x64 .f32) :
    (hpts s c f : sProp 𝕄) = (slot hM s).view.loc (c : Thread nD τ) ↦[(slot hM s).view.set]{fullShare} f :=
  congrArg (fun S : Finset S6x64x64.Idx => (((c : Thread nD τ).loc cc0_scratch1) ↦[S]{fullShare} (f : Buf (Elt F) ((c : Thread nD τ).loc cc0_scratch1)) : sProp 𝕄)) (set_slot_h s).symm

omit [FloatOps F] in
theorem hpts_congr (s : Fin 6) (c : Dev nD) (f g : Vec F S6x64x64 .f32) (h : ∀ i ∈ (rSlot s).set, f i = g i) :
    (hpts s c f : sProp 𝕄) = hpts s c g := pointsTo_congr h
omit [FloatOps F] in
theorem spts_congr (s : Fin 6) (c : Dev nD) (f g : Vec F S6x64x64 .f32) (h : ∀ i ∈ (rSlot s).set, f i = g i) :
    (spts s c f : sProp 𝕄) = spts s c g := pointsTo_congr h

omit [FloatOps F] in
/-- A buffer's elements under the union of a family of pairwise disjoint sets, when the union is everything. -/
theorem pts_cover {ℓ : Loc nD τ sig} (f : Buf (Elt F) ℓ) (T : Fin 6 → Finset (Idx ℓ)) (hd : ∀ s t, s ≠ t → Disjoint (T s) (T t))
    (hu : (Finset.univ : Finset (Fin 6)).biUnion T = Finset.univ) :
    (ℓ ↦{fullShare} f : sProp 𝕄) = bigSep Finset.univ fun s => ℓ ↦[T s]{fullShare} f := by
  rw [← hu]; exact pointsTo_biUnion Finset.univ T fun s _ t _ h => hd s t h

omit [FloatOps F] in
/-- A scratch buffer is its six slots. -/
theorem spts_all (c : Dev nD) (f : Vec F S6x64x64 .f32) :
    (((c : Thread nD τ).loc cc0_scratch0) ↦{fullShare} (f : Buf (Elt F) ((c : Thread nD τ).loc cc0_scratch0)) : sProp 𝕄) = bigSep Finset.univ fun s => spts s c f :=
  pts_cover (ℓ := (c : Thread nD τ).loc cc0_scratch0) f (fun s => (rSlot s).set) slot_disjoint slot_union
omit [FloatOps F] in
theorem hpts_all (c : Dev nD) (f : Vec F S6x64x64 .f32) :
    (((c : Thread nD τ).loc cc0_scratch1) ↦{fullShare} (f : Buf (Elt F) ((c : Thread nD τ).loc cc0_scratch1)) : sProp 𝕄) = bigSep Finset.univ fun s => hpts s c f :=
  pts_cover (ℓ := (c : Thread nD τ).loc cc0_scratch1) f (fun s => (rSlot s).set) slot_disjoint slot_union

/-- Something held only where a condition holds. -/
def opt (p : Prop) [Decidable p] (P : sProp 𝕄) : sProp 𝕄 := if p then P else iprop(emp)

/-! ## The schedule -/

/-- The messages a cell of device `c` waits for: its barrier one from each neighbour, its send and receive cells their own. -/
def dut (k : Ck) (c : Dev nD) : Finset (Fin 6) := match k with
  | none => Finset.univ.filter fun s => has s c
  | some (false, s) => if has s c then {s} else ∅
  | some (true, s) => if has (op s) c then {s} else ∅

/-- What they carry: a neighbour's signal its halo slot for the message to be sent to it; a send cell the packed plane
    back; a receive cell the plane that has arrived. -/
def pay (k : Ck) (c : Dev nD) (d : Fin 6) : sProp 𝕄 := match k with
  | none => hpts d (peer d c) hz
  | some (false, s) => spts s c (sal m c)
  | some (true, s) => hpts s c (hal m c)

instance pay_storable (k : Ck) (c : Dev nD) (d : Fin 6) : BI.Storable (upEmb : UEmb _ 𝕄) (pay (F := F) m k c d) := by
  unfold pay; split <;> infer_instance

/-- The units a message adds to its cell. -/
def amt (k : Ck) : ℕ := match k with | none => 1 | some _ => N
theorem amt_pos (k : Ck) : 0 < amt k := by unfold amt; split; exacts [Nat.one_pos, N_pos]

/-- One round, round 0, on the thirteen cells of every device. -/
def Rd : Rounds.Schedule (GSem nD τ sig) (Fin 6) 𝕄 where
  duties g r := if r = 0 ∧ g.1.2 = .tc then (match dec g.2 with | some k => dut k g.1.1 | none => ∅) else ∅
  unitless _ := False
  amount g _ _ := match dec g.2 with | some k => amt k | none => 1
  payload g _ d := match dec g.2 with | some k => pay m k g.1.1 d | none => iprop(emp)
  amount_pos g _ _ _ := by split; exacts [amt_pos _, Nat.one_pos]

instance Rd_payload_storable (g : GSem nD τ sig) (r : ℕ) (d : Fin 6) :
    BI.Storable (upEmb : UEmb _ 𝕄) ((Rd (F := F) m).payload g r d) := by
  show BI.Storable upEmb (match dec g.2 with | some k => pay m k g.1.1 d | none => iprop(emp))
  split <;> infer_instance

theorem duties_eq (c : Dev nD) (k : Ck) : (Rd (F := F) m).duties (cell c k) 0 = dut k c := by
  dsimp only [Rd]; rw [if_pos ⟨rfl, rfl⟩, dec_csem]
theorem duties_later (g : GSem nD τ sig) : ∀ r, 1 ≤ r → (Rd (F := F) m).duties g r = ∅ :=
  fun r hr => by dsimp only [Rd]; rw [if_neg fun h => by omega]
/-- A cell no message goes to is done at once. -/
theorem duties_none (c : Dev nD) (k : Ck) (h : dut k c = ∅) : ∀ r, 0 ≤ r → (Rd (F := F) m).duties (cell c k) r = ∅ := fun r _ => by
  rcases Nat.eq_zero_or_pos r with rfl | hr
  · rw [duties_eq, h]
  · exact duties_later m _ r hr
theorem amount_eq (c : Dev nD) (k : Ck) (d : Fin 6) : (Rd (F := F) m).amount (cell c k) 0 d = amt k := by
  dsimp only [Rd]; rw [dec_csem]
theorem payload_eq (c : Dev nD) (k : Ck) (d : Fin 6) : (Rd (F := F) m).payload (cell c k) 0 d = pay m k c d := by
  dsimp only [Rd]; rw [dec_csem]
theorem expect_eq (c : Dev nD) (k : Ck) : (Rd (F := F) m).expect (cell c k) 0 = (dut k c).card * amt k := by
  unfold Schedule.expect Schedule.amountOf
  rw [duties_eq, Finset.sum_congr rfl fun d _ => amount_eq m c k d, Finset.sum_const, smul_eq_mul]

theorem dut_snd (s : Fin 6) (c : Dev nD) (h : has s c) : dut (some (false, s)) c = {s} := if_pos h
theorem dut_rcv (s : Fin 6) (c : Dev nD) (h : has (op s) c) : dut (some (true, s)) c = {s} := if_pos h
theorem mem_dut_bar (s : Fin 6) (c : Dev nD) : s ∈ dut none c ↔ has s c := by simp [dut]

/-- Everything a cell's one round carries, none of it taken before. -/
theorem rest_eq (c : Dev nD) (k : Ck) :
    bigSep ((Rd (F := F) m).duties (cell c k) 0 \ ∅) (fun d => (Rd (F := F) m).payload (cell c k) 0 d) = bigSep (dut k c) (pay m k c) := by
  rw [Finset.sdiff_empty, duties_eq]; exact bigSep_congr fun d _ => payload_eq m c k d

/-! ## What a device owes, and the levels -/

/-- The signal, and the transfer, that device `c` owes for message `s`. -/
def osig (s : Fin 6) (c : Dev nD) : CellTallies nD τ sig Unit := if has s c then tallyAt (barCell (peer s c)) () 1 else 0
def osend (s : Fin 6) (c : Dev nD) : CellTallies nD τ sig Unit := if has s c then tallyAt (rcvCell s (peer s c)) () N else 0
/-- The transfers still owed, the list being the messages not yet sent. -/
def owe (c : Dev nD) : List (Fin 6) → CellTallies nD τ sig Unit
  | [] => 0
  | s :: l => owe c l + osend s c
abbrev six : List (Fin 6) := [0, 1, 2, 3, 4, 5]
/-- Everything owed at launch, in the order it is paid, the last summand first. -/
def O₀ (c : Dev nD) : CellTallies nD τ sig Unit :=
  owe c six + osig 4 c + osig 5 c + osig (sy c) c + osig (sx c) c

def L (g : GSem nD τ sig) : Finset Unit := if g.1.2 = .tc then {()} else ∅
/-- Barrier cells at 1, receive cells at 2, everything else at 0. -/
def lv (g : GSem nD τ sig) (_ : Unit) : ℕ := match dec g.2 with | some none => 1 | some (some (true, _)) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by
  unfold lv; rw [show dec (barCell c).2 = some none from dec_csem none]
theorem lv_rcv (s : Fin 6) (c : Dev nD) : lv (rcvCell s c) () = 2 := by
  unfold lv; rw [show dec (rcvCell s c).2 = some (some (true, s)) from dec_csem (some (true, s))]

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h; exact Nat.lt_irrefl 0 h
theorem osig_pos {s : Fin 6} {c : Dev nD} {g : GSem nD τ sig} {u : Unit} (h : 0 < osig s c g u) : g = barCell (peer s c) := by
  unfold osig at h; split at h
  · exact tally_pos h
  · exact absurd h (Nat.lt_irrefl 0)
theorem owe_pos {c : Dev nD} {g : GSem nD τ sig} {u : Unit} : ∀ {l : List (Fin 6)}, 0 < owe c l g u → ∃ s, g = rcvCell s (peer s c)
  | [], h => absurd h (Nat.lt_irrefl 0)
  | s :: l, h => by
    unfold owe at h
    rw [Pi.add_apply, Finsupp.add_apply] at h
    rcases Nat.eq_zero_or_pos (owe c l g u) with h0 | h0
    · rw [h0, Nat.zero_add] at h
      unfold osend at h; split at h
      · exact ⟨s, tally_pos h⟩
      · exact absurd h (Nat.lt_irrefl 0)
    · exact owe_pos h0
theorem O₀_pos {c : Dev nD} {g : GSem nD τ sig} {u : Unit} (h : 0 < O₀ c g u) :
    (∃ s, g = rcvCell s (peer s c)) ∨ ∃ s, g = barCell (peer s c) := by
  unfold O₀ at h
  simp only [Pi.add_apply, Finsupp.add_apply] at h
  rcases Nat.eq_zero_or_pos (owe c six g u) with h0 | h0
  · right
    rcases Nat.eq_zero_or_pos (osig 4 c g u) with h1 | h1
    · rcases Nat.eq_zero_or_pos (osig 5 c g u) with h2 | h2
      · rcases Nat.eq_zero_or_pos (osig (sy c) c g u) with h3 | h3
        · rcases Nat.eq_zero_or_pos (osig (sx c) c g u) with h4 | h4
          · omega
          · exact ⟨_, osig_pos h4⟩
        · exact ⟨_, osig_pos h3⟩
      · exact ⟨_, osig_pos h2⟩
    · exact ⟨_, osig_pos h1⟩
  · exact Or.inl (owe_pos h0)

/-- A staging wait lies below everything a device ever owes. -/
theorem mayWait_stage (c : Dev nD) (q : DmaSem sig) (hq : ∀ c : Dev nD, lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨s, rfl⟩ | ⟨s, rfl⟩ <;> exact Finset.mem_singleton_self _)
      (fun p hp => by rw [Finset.mem_singleton.mp hp]; exact (hq c).le)
      (fun g u hg => by
        rcases O₀_pos hg with ⟨s, rfl⟩ | ⟨s, rfl⟩
        · exact lt_of_lt_of_eq (by decide) (lv_rcv s _).symm
        · exact lt_of_lt_of_eq (by decide) (lv_bar _).symm)
  · rw [MayWait_zero]; iintro -; iempintro

/-- At its barrier wait a device owes receive credits only, which lie above its barrier cell. -/
theorem mayWait_bar (c : Dev nD) (l : List (Fin 6)) :
    (levAts L lv : sProp 𝕄) ⊢ MayWait (c : Thread nD τ) (.reg barS) () (owe c l) :=
  MayOwe.of_cut (L := L) (lev := lv) 1 (fun p hp => by rw [Finset.mem_singleton.mp hp, L_tc]; exact Finset.mem_singleton_self _)
    (fun g u hg => by obtain ⟨s, rfl⟩ := owe_pos hg; exact Finset.mem_singleton_self _)
    (fun p hp => by rw [Finset.mem_singleton.mp hp]; exact (lv_bar c).le)
    (fun g u hg => by obtain ⟨s, rfl⟩ := owe_pos hg; exact lt_of_lt_of_eq (by decide) (lv_rcv s _).symm)

end Cert.Halo

end
-- ==== Proof.Steps.lean ====
/-
One rule per conditional step of the kernel, each stated once for every message `s`: pack a plane, signal a neighbour,
send a plane, wait for a plane, wait for a sent plane, clear a face.
-/
module

public import proofs.«01_k».proof.Proof.Schedule

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ)

/-- A program of device `c` run to a postcondition. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes, whatever waits it has made. -/
def ow (c : Dev nD) (O : CellTallies nD τ sig Unit) : sProp 𝕄 := iprop(∃ W, owes (c : Thread nD τ) O W)

/-- The cells' invariants and the marks that every cell has reached round 0, at the names `K`. -/
def records (K : Dev nD × Ck → ℕ) : sProp 𝕄 :=
  iprop((bigSep Finset.univ fun ck : Dev nD × Ck => cellInv ER (Rd m) (K ck) (cell ck.1 ck.2))
    ∗ bigSep Finset.univ fun ck : Dev nD × Ck => reached ER (cell ck.1 ck.2) 0)

instance records_persistent (K : Dev nD × Ck → ℕ) : BI.Persistent (records m K) := by unfold records; infer_instance

theorem inv_at (K : Dev nD × Ck → ℕ) (c : Dev nD) (k : Ck) : records m K ⊢ cellInv ER (Rd m) (K (c, k)) (cell c k) := by
  unfold records; exact sep_elim_left.trans (bigSep_elim (Φ := fun ck : Dev nD × Ck => cellInv ER (Rd m) (K ck) (cell ck.1 ck.2)) (Finset.mem_univ (c, k)))
theorem reached_at (K : Dev nD × Ck → ℕ) (c : Dev nD) (k : Ck) : records m K ⊢ reached ER (cell c k) 0 := by
  unfold records; exact sep_elim_right.trans (bigSep_elim (Φ := fun ck : Dev nD × Ck => reached ER (cell ck.1 ck.2) 0) (Finset.mem_univ (c, k)))

theorem opt_pos {p : Prop} [Decidable p] (h : p) (P : sProp 𝕄) : opt p P = P := if_pos h
theorem opt_neg {p : Prop} [Decidable p] (h : ¬ p) (P : sProp 𝕄) : opt p P = iprop(emp) := if_neg h

/-- Slot `s` of the send buffer once packing is over: the packed plane if there is a neighbour to send it to. -/
def sst (s : Fin 6) (c : Dev nD) : sProp 𝕄 := if has s c then spts s c (sal m c) else iprop(∃ f, spts s c f)

def xpts (c : Dev nD) : sProp 𝕄 := ((c : Thread nD τ).loc cc0_stg0_0) ↦{fullShare} (xs m c : Buf (Elt F) ((c : Thread nD τ).loc cc0_stg0_0))
def opts (c : Dev nD) (f : Vec F S64x64x64 .f32) : sProp 𝕄 := ((c : Thread nD τ).loc cc0_stg1_0) ↦{fullShare} (f : Buf (Elt F) ((c : Thread nD τ).loc cc0_stg1_0))

section Steps

variable (c : Dev nD) (K : Dev nD × Ck → ℕ)

/-- A slot of the send buffer with the packed plane stored into it. -/
theorem pack_done (s : Fin 6) (f : Vec F S6x64x64 .f32) :
    (((sM : Memref sig .tc .vmem S6x64x64 .f32).view.loc (c : Thread nD τ) ↦[(rSlot s).set]{fullShare}
        (((sM : Memref sig .tc .vmem S6x64x64 .f32).access (rSlot s)).write (Elt F) f (pk (xs m c) s) Finset.univ : Buf (Elt F) ((sM : Memref sig .tc .vmem S6x64x64 .f32).view.loc (c : Thread nD τ)))) : sProp 𝕄)
      ⊢ ((c : Thread nD τ).loc cc0_scratch0) ↦[(rSlot s).set]{fullShare} (sal m c : Buf (Elt F) ((c : Thread nD τ).loc cc0_scratch0)) :=
  Entails.of_eq (spts_congr s c _ _ (write_slotc (pk (xs m c)) s f))

/-- Packing the plane of message `s`, when there is a neighbour for it. -/
theorem wp_pack (s : Fin 6) {p : BitVec 1} (hp : p = 1#1 ↔ has s c) {r : LoadRect S64x64x64} (g : (r.shape.Idx → Elt F .f32) → FVec F S1x64x64 .f32)
    (hg : g ((xM : Memref sig .tc .vmem S64x64x64 .f32).view.readAt (Elt F) r (xs m c)) = pk (xs m c) s)
    {hl : (xM : Memref sig .tc .vmem S64x64x64 .f32).view.LoadsAt r} {hl' : (sM : Memref sig .tc .vmem S6x64x64 .f32).view.LoadsAt (rSlot s).toLoadRect}
    {hx : ((sM : Memref sig .tc .vmem S6x64x64 .f32).access (rSlot s)).Stores Finset.univ} {hm}
    {α : Type} {Q : α → sProp 𝕄} {k : Prog (TpuEff nD τ sig (Elt F) Λ₀ .tc) α} :
    iprop(xpts m c ∗ ∃ f, spts s c f)
      ⊢ iprop(((xpts m c ∗ sst m s c) -∗ WP c k Q)
        -∗ WP c (if h : p = 1#1 then .op (.load xM r hl) fun v => .op (.load sM (rSlot s).toLoadRect hl') fun _ => .op (.store sM (rSlot s) (g v) Finset.univ hx hm) fun _ => k else k) Q) := by
  unfold xpts sst
  iintro ⟨Hx, ⟨%f, Hs⟩⟩ Hk
  by_cases h : p = 1#1
  · rw [dif_pos h, if_pos (hp.mp h)]
    iapply (wp_load 𝒱₀ (c : Thread nD τ) none Set.univ (m := xM) (Finset.subset_univ _)) $$ Hx; iintro Hx
    rw [hg]
    unfold spts
    have hset : ((sM : Memref sig .tc .vmem S6x64x64 .f32).access (rSlot s)).set = (rSlot s).set := View.set_slice_whole _ _
    iapply (wp_load_rect 𝒱₀ (c : Thread nD τ) none Set.univ (m := sM) (r := rSlot s) hset.le) $$ Hs; iintro Hs
    iapply (wp_store 𝒱₀ (c : Thread nD τ) none Set.univ (m := sM) (r := rSlot s) (Mk := Finset.univ) hset.le) $$ Hs; iintro Hs
    iapply Hk
    isplitl [Hx]; · iexact Hx
    ihave Hs' := (pack_done m c s f) $$ Hs
    iexact Hs'
  · rw [dif_neg h, if_neg (fun h' => h (hp.mpr h'))]
    iapply Hk
    isplitl [Hx]; · iexact Hx
    iexists f; iexact Hs

/-- Membership and payload, put on the cell. -/
theorem duty_mem (k : Ck) (d : Fin 6) (h : d ∈ dut k c) : d ∈ (Rd (F := F) m).duties (cell c k) 0 := by rw [duties_eq]; exact h
theorem duty_snd (s : Fin 6) (h : has s c) : s ∈ (Rd (F := F) m).duties ((c : Thread nD τ), SemLoc.dma (sndS s)) 0 :=
  duty_mem m c (some (false, s)) s (by rw [dut_snd s c h]; exact Finset.mem_singleton_self _)
theorem duty_rcv (s : Fin 6) (h : has (op s) c) : s ∈ (Rd (F := F) m).duties ((c : Thread nD τ), SemLoc.dma (rcvS s)) 0 :=
  duty_mem m c (some (true, s)) s (by rw [dut_rcv s c h]; exact Finset.mem_singleton_self _)
theorem pay_in (k : Ck) (d : Fin 6) : pay m k c d ⊢ (Rd (F := F) m).payload (cell c k) 0 d := Entails.of_eq (payload_eq m c k d).symm
theorem amt_bar (d : Fin 6) : (Rd (F := F) m).amount ((c : Thread nD τ), SemLoc.reg barS) 0 d = 1 := amount_eq m c none d
theorem amt_snd (s : Fin 6) : (Rd (F := F) m).amount ((c : Thread nD τ), SemLoc.dma (sndS s)) 0 s = N := amount_eq m c (some (false, s)) s
theorem amt_rcv (s : Fin 6) : (Rd (F := F) m).amount ((c : Thread nD τ), SemLoc.dma (rcvS s)) 0 s = N := amount_eq m c (some (true, s)) s
theorem sig_pay (s : Fin 6) : (hpts (op s) c hz : sProp 𝕄) ⊢ (Rd (F := F) m).payload (barCell (peer s c)) 0 (op s) :=
  (Entails.of_eq (show (hpts (op s) c hz : sProp 𝕄) = pay m none (peer s c) (op s) by unfold pay; rw [peer_peer])).trans (pay_in m (peer s c) none (op s))
theorem snd_pay (s : Fin 6) : ((slot sM s).view.loc (c : Thread nD τ) ↦[(slot sM s).view.set]{fullShare} (sal m c : Buf (Elt F) ((slot sM s).view.loc (c : Thread nD τ))))
    ⊢ (Rd (F := F) m).payload (sndCell s c) 0 s :=
  (Entails.of_eq (spts_view s c (sal m c)).symm).trans (pay_in m c (some (false, s)) s)
theorem rcv_pay (s : Fin 6) (h : has s c) :
    ((slot hM s).view.loc (peer s c : Thread nD τ) ↦[(slot hM s).view.set]{fullShare}
        ((slot hM s).view.write (Elt F) (hz : Vec F S6x64x64 .f32) ((slot sM s).view.read (Elt F) (sal m c)) Finset.univ : Buf (Elt F) ((slot hM s).view.loc (peer s c : Thread nD τ))))
      ⊢ (Rd (F := F) m).payload (rcvCell s (peer s c)) 0 s :=
  ((Entails.of_eq (hpts_view s (peer s c) _).symm).trans (Entails.of_eq (hpts_congr s (peer s c) _ _ fun i hi =>
    (copy_slot s hz (sal m c) i hi).trans (slotc_congr _ _ s (got_peer (xs m) s c h) i hi)))).trans (pay_in m (peer s c) (some (true, s)) s)

/-- What a signal to the neighbour of message `s` takes: the halo slot that neighbour sends to, and the right to signal. -/
def sigR (s : Fin 6) : sProp 𝕄 := iprop(hpts (op s) c hz ∗ dutyTok ER (barCell (peer s c)) 0 (op s))

/-- Signalling the neighbour `n` of message `s`. -/
theorem wp_sig (s : Fin 6) (h : has s c) (n : Dev nD) (hn : n = peer s c) (O : CellTallies nD τ sig Unit)
    {α : Type} {Q : α → sProp 𝕄} {k : PUnit → Prog (TpuEff nD τ sig (Elt F) Λ₀ .tc) α} :
    iprop(records m K ∗ sigR c s ∗ ow c (O + osig s c))
      ⊢ iprop((ow c O -∗ WP c (k ⟨⟩) Q)
        -∗ WP c (.op (.semSignal ((n : Dev nD) : Thread nD τ) barS ((1#32).toInt)) k) Q) := by
  subst hn
  unfold sigR ow osig
  rw [if_pos h]
  iintro ⟨#HK, ⟨Hh, Ht⟩, ⟨%W, HO⟩⟩ Hk
  iapply (Rounds.wp_signal 𝒱₀ ER (Rd (F := F) m) (c : Thread nD τ) none (r := 0) (dst := (peer s c : Thread nD τ)) (κ := K (peer s c, none))
      (d := op s) (duty_mem m (peer s c) none (op s) ((mem_dut_bar (op s) (peer s c)).mpr ((has_peer s c).mpr h)))
      (amt_bar m (peer s c) (op s)) () O rfl)
    $$ [HO Ht Hh]
  · isplitr; · iapply (inv_at m K (peer s c) none); iexact HK
    isplitl [HO]; · iexact HO
    isplitl [Ht]; · iexact Ht
    isplitl [Hh]
    · ihave Hh' := (sig_pay m c s) $$ Hh
      iexact Hh'
    · iapply (reached_at m K (peer s c) none); iexact HK
  iintro HO
  iapply Hk
  iexists W; iexact HO

/-- The same under the test that there is one. -/
theorem wp_sig_if (s : Fin 6) {p : BitVec 1} (hp : p = 1#1 ↔ has s c) (n : p = 1#1 → Dev nD) (hn : ∀ h, n h = peer s c) (O : CellTallies nD τ sig Unit)
    {α : Type} {Q : α → sProp 𝕄} {k : Prog (TpuEff nD τ sig (Elt F) Λ₀ .tc) α} :
    iprop(records m K ∗ opt (has s c) (sigR c s) ∗ ow c (O + osig s c))
      ⊢ iprop((ow c O -∗ WP c k Q)
        -∗ WP c (if h : p = 1#1 then .op (.semSignal ((n h : Dev nD) : Thread nD τ) barS ((1#32).toInt)) fun _ => k else k) Q) := by
  by_cases h : p = 1#1
  · rw [dif_pos h, opt_pos (hp.mp h)]
    exact wp_sig m c K s (hp.mp h) (n h) (hn h) O (k := fun _ => k)
  · rw [dif_neg h, opt_neg (fun h' => h (hp.mpr h')), show osig s c = 0 from if_neg (fun h' => h (hp.mpr h')), add_zero]
    iintro ⟨-, -, HO⟩ Hk
    iapply Hk; iexact HO

/-- What the transfer of message `s` takes: the packed plane, the neighbour's slot, and the rights to credit the two cells. -/
def sndR (s : Fin 6) : sProp 𝕄 :=
  iprop(spts s c (sal m c) ∗ hpts s (peer s c) hz ∗ dutyTok ER (sndCell s c) 0 s ∗ dutyTok ER (rcvCell s (peer s c)) 0 s)

/-- Sending message `s` to the neighbour `n` of message `s`. -/
theorem wp_snd (s : Fin 6) (hs : has s c) (n : Dev nD) (hn : n = peer s c) (l : List (Fin 6))
    {hsc : (slot hM s : Memref sig (Dev.tc n : Thread nD τ).2.kind .vmem S64x64 .f32).view.ref.isScScratch = false}
    {hsrc : (slot sM s : Memref sig .tc .vmem S64x64 .f32).view.WordExact} {hdst : (slot hM s : Memref sig .tc .vmem S64x64 .f32).view.WordExact}
    {hsem : DmaTarget.Typed .vmem (.dma (rcvS s)) (.remote (Dev.tc n : Thread nD τ) (slot hM s : Memref sig .tc .vmem S64x64 .f32) (.dma (sndS s)) hsc)}
    {α : Type} {Q : α → sProp 𝕄} {k : PUnit → Prog (TpuEff nD τ sig (Elt F) Λ₀ .tc) α} (W : Waits sig Unit) :
    iprop(cellInv ER (Rd m) (K (c, some (false, s))) (sndCell s c) ∗ cellInv ER (Rd m) (K (peer s c, some (true, s))) (rcvCell s (peer s c))
        ∗ spts s c (sal m c) ∗ hpts s (peer s c) hz ∗ owes (c : Thread nD τ) (owe c l + tallyAt (rcvCell s (peer s c)) () N) W
        ∗ dutyTok ER (sndCell s c) 0 s ∗ reached ER (sndCell s c) 0
        ∗ dutyTok ER (rcvCell s (peer s c)) 0 s ∗ reached ER (rcvCell s (peer s c)) 0)
      ⊢ iprop(((cred (tallyAt (sndCell s c) () N) ∗ owes (c : Thread nD τ) (owe c l) W) -∗ WP c (k ⟨⟩) Q)
        -∗ WP c (.op (.enqueueDma (slot sM s) (.remote (Dev.tc n : Thread nD τ) (slot hM s) (.dma (sndS s)) hsc) (.dma (rcvS s)) hsrc hdst hsem) k) Q) := by
  subst hn
  rw [spts_view s c, hpts_view s (peer s c)]
  exact Rounds.wp_send_pointsTo 𝒱₀ ER (Rd m) (c : Thread nD τ) none (κ₁ := K (c, some (false, s))) (κ₂ := K (peer s c, some (true, s)))
    (src := slot sM s) (dst := slot hM s) (sS := .dma (sndS s)) (sem := .dma (rcvS s)) (c' := (peer s c : Thread nD τ))
    (hsc := hsc) (hsrc := hsrc) (hdst := hdst) (hsem := hsem) (k := k) (Q := Q) (q := fullShare)
    (r₁ := 0) (r₂ := 0) (d₁ := s) (d₂ := s) (fs := sal m c) (fd := (hz : Vec F S6x64x64 .f32))
    (duty_snd m c s hs) (duty_rcv m (peer s c) s ((has_peer s c).mpr hs))
    () () N (N_rcv s s) (amt_snd m c s) (amt_rcv m (peer s c) s) (owe c l) rfl (W := W) (snd_pay m c s) (rcv_pay m c s hs)

/-- Sending message `s`, when there is a neighbour for it. -/
theorem wp_snd_if (s : Fin 6) {p : BitVec 1} (hp : p = 1#1 ↔ has s c) (n : p = 1#1 → Dev nD) (hn : ∀ h, n h = peer s c) (l : List (Fin 6))
    {hsc : ∀ h, (slot hM s : Memref sig (Dev.tc (n h) : Thread nD τ).2.kind .vmem S64x64 .f32).view.ref.isScScratch = false}
    {hsrc : (slot sM s : Memref sig .tc .vmem S64x64 .f32).view.WordExact} {hdst : (slot hM s : Memref sig .tc .vmem S64x64 .f32).view.WordExact}
    {hsem : ∀ h, DmaTarget.Typed .vmem (.dma (rcvS s)) (.remote (Dev.tc (n h) : Thread nD τ) (slot hM s : Memref sig .tc .vmem S64x64 .f32) (.dma (sndS s)) (hsc h))}
    {α : Type} {Q : α → sProp 𝕄} {k : Prog (TpuEff nD τ sig (Elt F) Λ₀ .tc) α} :
    iprop(records m K ∗ opt (has s c) (sndR m c s) ∗ ow c (owe c (s :: l)))
      ⊢ iprop(((opt (has s c) (cred (tallyAt (sndCell s c) () N)) ∗ ow c (owe c l)) -∗ WP c k Q)
        -∗ WP c (if h : p = 1#1 then .op (.enqueueDma (slot sM s) (.remote (Dev.tc (n h) : Thread nD τ) (slot hM s) (.dma (sndS s)) (hsc h)) (.dma (rcvS s)) hsrc hdst (hsem h)) fun _ => k else k) Q) := by
  by_cases h : p = 1#1
  · have hs := hp.mp h
    rw [dif_pos h, opt_pos hs, opt_pos hs]
    unfold sndR ow
    rw [show owe c (s :: l) = owe c l + tallyAt (rcvCell s (peer s c)) () N from congrArg (owe c l + ·) (if_pos hs)]
    iintro ⟨#HK, ⟨Hs, Hh, Ht1, Ht2⟩, ⟨%W, HO⟩⟩ Hk
    iapply (wp_snd m c K s hs (n h) (hn h) l W) $$ [Hs Hh HO Ht1 Ht2]
    · isplitr; · iapply (inv_at m K c (some (false, s))); iexact HK
      isplitr; · iapply (inv_at m K (peer s c) (some (true, s))); iexact HK
      isplitl [Hs]; · iexact Hs
      isplitl [Hh]; · iexact Hh
      isplitl [HO]; · iexact HO
      isplitl [Ht1]; · iexact Ht1
      isplitr; · iapply (reached_at m K c (some (false, s))); iexact HK
      isplitl [Ht2]; · iexact Ht2
      iapply (reached_at m K (peer s c) (some (true, s))); iexact HK
    iintro ⟨Hc, HO⟩
    iapply Hk
    isplitl [Hc]; · iexact Hc
    iexists W; iexact HO
  · have hs : ¬ has s c := fun h' => h (hp.mpr h')
    rw [dif_neg h, opt_neg hs, opt_neg hs, show owe c (s :: l) = owe c l from (congrArg (owe c l + ·) (if_neg hs)).trans (add_zero _)]
    iintro ⟨-, -, HO⟩ Hk
    iapply Hk
    isplitr; · iempintro
    iexact HO

/-- Waiting for message `s` on a send (`b = false`) or receive cell it goes to: what the message carries, and the cell closed. -/
theorem wp_take (b : Bool) (s : Fin 6) (h : dut (some (b, s)) c = {s}) {sm : SemLoc sig} (hsm : sm = csem (some (b, s)))
    {w : TpuEff nD τ sig (Elt F) Λ₀ .tc PUnit} {n : ℕ} (hn : n = N) (hw : ∀ X : PUnit → sProp 𝕄, wpE (defs₀ (F := F)) 𝒱₀ (c : Thread nD τ) none Set.univ w X = waitSpec (c : Thread nD τ) Set.univ sm n X)
    {α : Type} {Q : α → sProp 𝕄} {k : PUnit → Prog (TpuEff nD τ sig (Elt F) Λ₀ .tc) α} :
    iprop(records m K ∗ cred (tallyAt (cell c (some (b, s))) () N) ∗ ow c 0 ∗ atPos ER (cell c (some (b, s))) 0 ∅ 0)
      ⊢ iprop(((pay m (some (b, s)) c s ∗ semVal (cell c (some (b, s))) 0 ∗ ow c 0) -∗ WP c (k ⟨⟩) Q) -∗ WP c (.op w k) Q) := by
  subst hsm hn
  unfold ow
  iintro ⟨#HK, Hc, ⟨%W, HO⟩, Hat⟩ Hk
  iapply (Rounds.wp_wait_rest_token 𝒱₀ ER (Rd m) (c : Thread nD τ) none (κ := K (c, some (b, s))) hw (Set.mem_univ _) () (O := 0) (W := W) (R := 0) (m := 0) (T := ∅)
      (by rw [Nat.zero_add]; exact ((expect_eq m c (some (b, s))).trans (by rw [h, Finset.card_singleton, one_mul]; rfl)).symm)) $$ [Hc HO Hat]
  · isplitr; · iapply (inv_at m K c (some (b, s))); iexact HK
    isplitl [Hc]; · iexact Hc
    isplitl [HO]; · iexact HO
    isplitr; · rw [MayWait_zero]; iempintro
    iexact Hat
  iintro ⟨HO, Hat, -, Hpay⟩
  ihave Hpay := (Entails.of_eq ((rest_eq m c (some (b, s))).trans (by rw [h, bigSep_singleton]))) $$ Hpay
  imod (Rounds.cell_close ER (Rd m) (Set.mem_univ (K (c, some (b, s)))) (fun h => h) (R := 0 + 1) (duties_later m (cell c (some (b, s))))) $$ [Hat] with Hz
  · isplitr; · iapply (inv_at m K c (some (b, s))); iexact HK
    iexact Hat
  iapply Hk
  isplitl [Hpay]; · iexact Hpay
  isplitl [Hz]; · iexact Hz
  iexists _; iexact HO

/-- A cell no message goes to closes at once. -/
theorem close_idle (k : Ck) (h : dut k c = ∅) {α : Type} {Q : α → sProp 𝕄} {p : Prog (TpuEff nD τ sig (Elt F) Λ₀ .tc) α} :
    iprop(records m K ∗ atPos ER (cell c k) 0 ∅ 0) ⊢ iprop((semVal (cell c k) 0 -∗ WP c p Q) -∗ WP c p Q) := by
  iintro ⟨#HK, Hat⟩ Hk
  imod (Rounds.cell_close ER (Rd m) (Set.mem_univ (K (c, k))) (fun h => h) (R := 0) (duties_none m c k h)) $$ [Hat] with Hz
  · isplitr; · iapply (inv_at m K c k); iexact HK
    iexact Hat
  iapply Hk; iexact Hz

/-- The wait for message `s` from the other side, when there is a neighbour there: either way the halo slot holds what it
    holds when every message has arrived. -/
theorem wp_rcv_if (s : Fin 6) {p : BitVec 1} (hp : p = 1#1 ↔ has (op s) c)
    {hsrc : (slot sM s : Memref sig .tc .vmem S64x64 .f32).view.WordExact} {hdst : (slot hM s : Memref sig .tc .vmem S64x64 .f32).view.WordExact}
    {α : Type} {Q : α → sProp 𝕄} {k : Prog (TpuEff nD τ sig (Elt F) Λ₀ .tc) α} :
    iprop(records m K ∗ opt (has (op s) c) (cred (tallyAt (rcvCell s c) () N)) ∗ ow c 0 ∗ atPos ER (rcvCell s c) 0 ∅ 0 ∗ opt (¬ has (op s) c) (hpts s c hz))
      ⊢ iprop(((hpts s c (hal m c) ∗ semVal (rcvCell s c) 0 ∗ ow c 0) -∗ WP c k Q)
        -∗ WP c (if h : p = 1#1 then .op (.waitDma2 (rcvS s) (slot sM s) (slot hM s) hsrc hdst) fun _ => k else k) Q) := by
  by_cases h : has (op s) c
  · rw [dif_pos (hp.mpr h), opt_pos h, opt_neg (fun h' => h' h)]
    iintro ⟨#HK, Hc, HO, Hat, -⟩ Hk
    iapply (wp_take m c K true s (dut_rcv s c h) (sm := .dma (rcvS s)) rfl (N_rcv s s) (wpE_waitDma2_eq 𝒱₀ (c : Thread nD τ) none Set.univ) (k := fun _ => k)) $$ [Hc HO Hat]
    · isplitr; · iexact HK
      isplitl [Hc]; · iexact Hc
      isplitl [HO]; · iexact HO
      iexact Hat
    iexact Hk
  · rw [dif_neg (fun h' => h (hp.mp h')), opt_neg h, opt_pos h, hpts_congr s c hz (hal m c) (slotc_congr _ _ s (got_none (xs m) s c h).symm)]
    iintro ⟨#HK, -, HO, Hat, Hh⟩ Hk
    iapply (close_idle m c K (some (true, s)) (if_neg h)) $$ [Hat]
    · isplitr; · iexact HK
      iexact Hat
    iintro Hz
    iapply Hk
    isplitl [Hh]; · iexact Hh
    isplitl [Hz]; · iexact Hz
    iexact HO

/-- The wait for message `s` to have been sent, when it was: either way the send buffer's slot is back. -/
theorem wp_sent_if (s : Fin 6) {p : BitVec 1} (hp : p = 1#1 ↔ has s c)
    {hsrc : (slot hM s : Memref sig .tc .vmem S64x64 .f32).view.WordExact} {hdst : (slot sM s : Memref sig .tc .vmem S64x64 .f32).view.WordExact}
    {α : Type} {Q : α → sProp 𝕄} {k : Prog (TpuEff nD τ sig (Elt F) Λ₀ .tc) α} :
    iprop(records m K ∗ opt (has s c) (cred (tallyAt (sndCell s c) () N)) ∗ ow c 0 ∗ atPos ER (sndCell s c) 0 ∅ 0 ∗ opt (¬ has s c) iprop(∃ f, spts s c f))
      ⊢ iprop((((∃ f, spts s c f) ∗ semVal (sndCell s c) 0 ∗ ow c 0) -∗ WP c k Q)
        -∗ WP c (if h : p = 1#1 then .op (.waitDma2 (sndS s) (slot hM s) (slot sM s) hsrc hdst) fun _ => k else k) Q) := by
  by_cases h : has s c
  · rw [dif_pos (hp.mpr h), opt_pos h, opt_neg (fun h' => h' h)]
    iintro ⟨#HK, Hc, HO, Hat, -⟩ Hk
    iapply (wp_take m c K false s (dut_snd s c h) (sm := .dma (sndS s)) rfl (N_snd s s) (wpE_waitDma2_eq 𝒱₀ (c : Thread nD τ) none Set.univ) (k := fun _ => k)) $$ [Hc HO Hat]
    · isplitr; · iexact HK
      isplitl [Hc]; · iexact Hc
      isplitl [HO]; · iexact HO
      iexact Hat
    iintro ⟨Hs, Hz, HO⟩
    iapply Hk
    isplitl [Hs]; · iexists (sal m c); iapply (Entails.of_eq (show pay m (some (false, s)) c s = spts s c (sal m c) from rfl)); iexact Hs
    isplitl [Hz]; · iexact Hz
    iexact HO
  · rw [dif_neg (fun h' => h (hp.mp h')), opt_neg h, opt_pos h]
    iintro ⟨#HK, -, HO, Hat, Hs⟩ Hk
    iapply (close_idle m c K (some (false, s)) (if_neg h)) $$ [Hat]
    · isplitr; · iexact HK
      iexact Hat
    iintro Hz
    iapply Hk
    isplitl [Hs]; · iexact Hs
    isplitl [Hz]; · iexact Hz
    iexact HO

/-- Neighbours number four between two others on the z axis, three at its ends. -/
theorem cnt_mid (h : has 4 c ∧ has 5 c) : cnt c = 3 + 1 := by revert h; revert c; decide
theorem cnt_end (h : ¬ (has 4 c ∧ has 5 c)) : cnt c = 3 := by revert h; revert c; decide
theorem bar_parts (S : Finset (Fin 6)) (hS : S ⊆ (Rd (F := F) m).duties (barCell c) 0) :
    iprop(bigSep (S \ ∅) (fun d => (Rd (F := F) m).payload (barCell c) 0 d)
      ∗ bigSep ((Rd (F := F) m).duties (barCell c) 0 \ S) (fun d => (Rd (F := F) m).payload (barCell c) 0 d)) ⊢ bigSep (dut none c) (pay m none c) := by
  rw [Finset.sdiff_empty]
  refine (Entails.of_eq (bigSep_union Finset.disjoint_sdiff).symm).trans ?_
  rw [Finset.union_sdiff_of_subset hS, ← rest_eq m c none, Finset.sdiff_empty]
  exact BI.Entails.refl _
theorem expect_bar : (Rd (F := F) m).expect (barCell c) 0 = cnt c :=
  (expect_eq m c none).trans (Nat.mul_one _)

/-- The barrier wait in its two parts: from every neighbour its halo slot for the message to it, and the cell closed. -/
theorem wp_bar {q : BitVec 1} (hq : q = 1#1 ↔ has 4 c ∧ has 5 c) (l : List (Fin 6))
    {α : Type} {Q : α → sProp 𝕄} {k : Prog (TpuEff nD τ sig (Elt F) Λ₀ .tc) α} :
    iprop(records m K ∗ cred (tallyAt (barCell c) () (cnt c)) ∗ ow c (owe c l) ∗ levAts L lv ∗ atPos ER (barCell c) 0 ∅ 0)
      ⊢ iprop(((bigSep (dut none c) (pay m none c) ∗ semVal (barCell c) 0 ∗ ow c (owe c l)) -∗ WP c k Q)
        -∗ WP c (.op (.semWait barS ((3#32).toInt)) fun _ => if h : q = 1#1 then .op (.semWait barS ((1#32).toInt)) fun _ => k else k) Q) := by
  unfold ow
  by_cases h : has 4 c ∧ has 5 c
  · rw [dif_pos (hq.mpr h), cnt_mid c h, ← tallyAt_add]
    iintro ⟨#HK, Hc, ⟨%W, HO⟩, #Hlev, Hat⟩ Hk
    ihave Hc := (cred_add (tallyAt (barCell c) () 3) (tallyAt (barCell c) () 1)).1 $$ Hc
    icases Hc with ⟨Hc3, Hc1⟩
    iapply (Rounds.wp_wait 𝒱₀ ER (Rd m) (c : Thread nD τ) none (κ := K (c, none)) (wpE_semWait_eq 𝒱₀ (c : Thread nD τ) none Set.univ) (Set.mem_univ _)
        (cr := Finsupp.single () 3) (O := owe c l) (W := W) {(SemLoc.reg barS, ())} (R := 0) (m := 0) (T := ∅) (by rw [Util.total_single]; rfl) (image_single_subset _ () 3)) $$ [Hc3 HO Hat]
    · isplitr; · iapply (inv_at m K c none); iexact HK
      isplitl [Hc3]; · iexact Hc3
      isplitl [HO]; · iexact HO
      isplitr; · iapply (mayWait_bar c l); iexact Hlev
      iexact Hat
    iintro %S ⟨%hS, HO, Hat, Hp⟩
    iapply (Rounds.wp_wait_rest_token 𝒱₀ ER (Rd m) (c : Thread nD τ) none (κ := K (c, none)) (wpE_semWait_eq 𝒱₀ (c : Thread nD τ) none Set.univ) (Set.mem_univ _)
        () (O := owe c l) (W := W ∪ {(SemLoc.reg barS, ())}) (R := 0) (m := 0 + 3) (T := S) ((expect_bar m c).trans (cnt_mid c h)).symm) $$ [Hc1 HO Hat]
    · isplitr; · iapply (inv_at m K c none); iexact HK
      isplitl [Hc1]; · iexact Hc1
      isplitl [HO]; · iexact HO
      isplitr; · iapply (mayWait_bar c l); iexact Hlev
      iexact Hat
    iintro ⟨HO, Hat, -, Hp'⟩
    imod (Rounds.cell_close ER (Rd m) (Set.mem_univ (K (c, none))) (fun h => h) (R := 0 + 1) (duties_later m (barCell c))) $$ [Hat] with Hz
    · isplitr; · iapply (inv_at m K c none); iexact HK
      iexact Hat
    iapply Hk
    isplitl [Hp Hp']
    · iapply (bar_parts m c S hS.2.1)
      isplitl [Hp]; · iexact Hp
      iexact Hp'
    isplitl [Hz]; · iexact Hz
    iexists _; iexact HO
  · rw [dif_neg (fun h' => h (hq.mp h')), cnt_end c h]
    iintro ⟨#HK, Hc, ⟨%W, HO⟩, #Hlev, Hat⟩ Hk
    iapply (Rounds.wp_wait_rest_token 𝒱₀ ER (Rd m) (c : Thread nD τ) none (κ := K (c, none)) (wpE_semWait_eq 𝒱₀ (c : Thread nD τ) none Set.univ) (Set.mem_univ _)
        () (O := owe c l) (W := W) (R := 0) (m := 0) (T := ∅) ((Nat.zero_add _).trans ((expect_bar m c).trans (cnt_end c h)).symm)) $$ [Hc HO Hat]
    · isplitr; · iapply (inv_at m K c none); iexact HK
      isplitl [Hc]; · iexact Hc
      isplitl [HO]; · iexact HO
      isplitr; · iapply (mayWait_bar c l); iexact Hlev
      iexact Hat
    iintro ⟨HO, Hat, -, Hp⟩
    imod (Rounds.cell_close ER (Rd m) (Set.mem_univ (K (c, none))) (fun h => h) (R := 0 + 1) (duties_later m (barCell c))) $$ [Hat] with Hz
    · isplitr; · iapply (inv_at m K c none); iexact HK
      iexact Hat
    iapply Hk
    isplitl [Hp]; · iapply (Entails.of_eq (rest_eq m c none)); iexact Hp
    isplitl [Hz]; · iexact Hz
    iexists _; iexact HO

/-- Clearing a face of the result, when the test says so. -/
theorem wp_clear {q : Prop} [Decidable q] {p : BitVec 1} (hp : p = 1#1 ↔ q) {r : Rect S64x64x64} (f : Vec F S64x64x64 .f32) (g : FVec F r.shape .f32)
    {hl : (oM : Memref sig .tc .vmem S64x64x64 .f32).view.LoadsAt r.toLoadRect}
    {hx : ((oM : Memref sig .tc .vmem S64x64x64 .f32).access r).Stores Finset.univ} {hm}
    {α : Type} {Q : α → sProp 𝕄} {k : Prog (TpuEff nD τ sig (Elt F) Λ₀ .tc) α} :
    opts c f
      ⊢ iprop((opts c (if q then ((oM : Memref sig .tc .vmem S64x64x64 .f32).access r).write (Elt F) f g Finset.univ else f) -∗ WP c k Q)
        -∗ WP c (if h : p = 1#1 then .op (.load oM r.toLoadRect hl) fun _ => .op (.store oM r g Finset.univ hx hm) fun _ => k else k) Q) := by
  unfold opts
  by_cases h : q
  · rw [dif_pos (hp.mpr h), if_pos h]
    iintro Ho Hk
    iapply (wp_load 𝒱₀ (c : Thread nD τ) none Set.univ (m := oM) (Finset.subset_univ _)) $$ Ho; iintro Ho
    iapply (wp_store 𝒱₀ (c : Thread nD τ) none Set.univ (m := oM) (r := r) (Mk := Finset.univ) (Finset.subset_univ _)) $$ Ho; iintro Ho
    iapply Hk; iexact Ho
  · rw [dif_neg (fun h' => h (hp.mp h')), if_neg h]
    iintro Ho Hk
    iapply Hk; iexact Ho

end Steps

end Cert.Halo

end
-- ==== Proof.Out.lean ====
/-
What a device's result block goes through: the sums of the block itself, one halo plane added on each of the six
faces, and the faces on the grid's boundary cleared.
-/
module

public import proofs.«01_k».proof.Proof.Schedule

@[expose] public section

noncomputable section

namespace Cert.Halo

open Cert.KernelIdeal Cert.KernelIdeal.Gen

open Idealize.ShloMosaic
open Idealize.ShloMosaic.TcCoe

variable {F : FTy → Type} [FloatOps F]

/-- The six faces of a block, and the whole of it. -/
abbrev rX0 : Rect S64x64x64 := Rect.unit (s := S64x64x64) ![0, 0, 0] S1x64x64.size inb_S64x64x64_S1x64x64_0_0_0
abbrev rX1 : Rect S64x64x64 := Rect.unit (s := S64x64x64) ![63, 0, 0] S1x64x64.size inb_S64x64x64_S1x64x64_63_0_0
abbrev rY0 : Rect S64x64x64 := Rect.unit (s := S64x64x64) ![0, 0, 0] S64x1x64.size inb_S64x64x64_S64x1x64_0_0_0
abbrev rY1 : Rect S64x64x64 := Rect.unit (s := S64x64x64) ![0, 63, 0] S64x1x64.size inb_S64x64x64_S64x1x64_0_63_0
abbrev rZ0 : Rect S64x64x64 := Rect.unit (s := S64x64x64) ![0, 0, 0] S64x64x1.size inb_S64x64x64_S64x64x1_0_0_0
abbrev rZ1 : Rect S64x64x64 := Rect.unit (s := S64x64x64) ![0, 0, 63] S64x64x1.size inb_S64x64x64_S64x64x1_0_0_63
abbrev rA : Rect S64x64x64 := Rect.unit (s := S64x64x64) ![0, 0, 0] S64x64x64.size inb_S64x64x64_S64x64x64_0_0_0
abbrev rH : Rect S6x64x64 := Rect.unit (s := S6x64x64) ![0, 0, 0] S6x64x64.size inb_S6x64x64_S6x64x64_0_0_0

/-- A face read from the result, and the result with a face stored into it. -/
abbrev ld (r : Rect S64x64x64) (f : Vec F S64x64x64 .f32) : Vec F r.shape .f32 := (oM : Memref sig .tc .vmem S64x64x64 .f32).view.readAt (Elt F) r.toLoadRect f
abbrev st (r : Rect S64x64x64) (f : Vec F S64x64x64 .f32) (w : FVec F r.shape .f32) : Vec F S64x64x64 .f32 :=
  ((oM : Memref sig .tc .vmem S64x64x64 .f32).access r).write (Elt F) f w Finset.univ

/-- The window of a shape's own sizes is the shape. -/
theorem emb_all {s : Shape} {off : Fin s.rank → ℕ} (inb : ∀ a, off a + s.size a ≤ s.size a) (z : s.Idx) :
    (Rect.unit off s.size inb).emb z = z :=
  funext fun a => Fin.ext (by
    have := inb a
    show off a + 1 * (z a).val = (z a).val
    omega)

/-- The whole block read is the block; the whole of a buffer stored is what is stored. -/
theorem ld_all (x : Vec F S64x64x64 .f32) : (xM : Memref sig .tc .vmem S64x64x64 .f32).view.readAt (Elt F) rA.toLoadRect x = x := by
  funext y
  exact congrArg x (emb_all (s := S64x64x64) inb_S64x64x64_S64x64x64_0_0_0 y)
theorem st_all (f w : Vec F S64x64x64 .f32) : st rA f w = w := by
  funext y
  have h1 := View.write_emb_of_mem (v := (oM : Memref sig .tc .vmem S64x64x64 .f32).access rA) (Val := Elt F) f w
    (M := Finset.univ) (x := y) (Finset.mem_univ _)
  rw [cast_eq, show ((oM : Memref sig .tc .vmem S64x64x64 .f32).access rA).emb y = y from emb_all (s := S64x64x64) inb_S64x64x64_S64x64x64_0_0_0 y] at h1
  exact h1
theorem st_halo (f w : Vec F S6x64x64 .f32) : ((hM : Memref sig .tc .vmem S6x64x64 .f32).access rH).write (Elt F) f w Finset.univ = w := by
  funext y
  have h1 := View.write_emb_of_mem (v := (hM : Memref sig .tc .vmem S6x64x64 .f32).access rH) (Val := Elt F) f w
    (M := Finset.univ) (x := y) (Finset.mem_univ _)
  rw [cast_eq, show ((hM : Memref sig .tc .vmem S6x64x64 .f32).access rH).emb y = y from emb_all (s := S6x64x64) inb_S6x64x64_S6x64x64_0_0_0 y] at h1
  exact h1

/-- The sums of the block itself, and after each face's halo plane. -/
def b0 (x : Vec F S64x64x64 .f32) : Vec F S64x64x64 .f32 := k0_pay12 (k0_pay10 x) (k0_pay11 x) (Scalar.ofBits .bf16 0x40C0#16)
def b1 (x : Vec F S64x64x64 .f32) (h : Fin 6 → FVec F S1x64x64 .f32) : Vec F S64x64x64 .f32 := st rX0 (b0 x) (k0_pay14 (k0_pay13 (ld rX0 (b0 x)) (h 0)))
def b2 (x : Vec F S64x64x64 .f32) (h : Fin 6 → FVec F S1x64x64 .f32) : Vec F S64x64x64 .f32 := st rX1 (b1 x h) (k0_pay15 (ld rX1 (b1 x h)) (h 1))
def b3 (x : Vec F S64x64x64 .f32) (h : Fin 6 → FVec F S1x64x64 .f32) : Vec F S64x64x64 .f32 := st rY0 (b2 x h) (k0_pay16 (ld rY0 (b2 x h)) (h 2))
def b4 (x : Vec F S64x64x64 .f32) (h : Fin 6 → FVec F S1x64x64 .f32) : Vec F S64x64x64 .f32 := st rY1 (b3 x h) (k0_pay17 (ld rY1 (b3 x h)) (h 3))
def b5 (x : Vec F S64x64x64 .f32) (h : Fin 6 → FVec F S1x64x64 .f32) : Vec F S64x64x64 .f32 := st rZ0 (b4 x h) (k0_pay18 (ld rZ0 (b4 x h)) (h 4))
def b6 (x : Vec F S64x64x64 .f32) (h : Fin 6 → FVec F S1x64x64 .f32) : Vec F S64x64x64 .f32 := st rZ1 (b5 x h) (k0_pay19 (ld rZ1 (b5 x h)) (h 5))

/-- A face stored when a condition holds. -/
def clr (q : Prop) [Decidable q] (r : Rect S64x64x64) (g : FVec F r.shape .f32) (f : Vec F S64x64x64 .f32) : Vec F S64x64x64 .f32 := if q then st r f g else f

/-- After the four faces across the first two axes, and after all six: the result. -/
def b7 (c : Dev nD) (x : Vec F S64x64x64 .f32) (h : Fin 6 → FVec F S1x64x64 .f32) : Vec F S64x64x64 .f32 :=
  clr (has 3 c) rY1 k0_pay24 (clr (has 2 c) rY0 k0_pay23 (clr (has 1 c) rX1 k0_pay22 (clr (has 0 c) rX0 k0_pay21 (b6 x h))))
def b8 (c : Dev nD) (x : Vec F S64x64x64 .f32) (h : Fin 6 → FVec F S1x64x64 .f32) : Vec F S64x64x64 .f32 :=
  clr (¬ has 4 c) rZ1 (k0_pay2 k0_pay20) (clr (¬ has 5 c) rZ0 (k0_pay1 k0_pay20) (b7 c x h))

/-- What device `c` leaves, from every device's block. -/
def outv (x : Dev nD → Vec F S64x64x64 .f32) (c : Dev nD) : Vec F S64x64x64 .f32 := b8 c (x c) (got x c)

end Cert.Halo

end
-- ==== Proof.Body.lean ====
/-
The kernel body run part by part, each part from what it needs to what it leaves.
-/
module

public import proofs.«01_k».proof.Proof.Steps
public import proofs.«01_k».proof.Proof.Out

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD) (K : Dev nD × Ck → ℕ)

/-- The halo buffer whole, holding `f`. -/
def hwh (f : Vec F S6x64x64 .f32) : sProp 𝕄 := ((c : Thread nD τ).loc cc0_scratch1) ↦{fullShare} (f : Buf (Elt F) ((c : Thread nD τ).loc cc0_scratch1))

/-- Six resources are the separating product over the messages. -/
theorem six_sep (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide)]
  simp only [bigSepL_cons, bigSepL_nil]
  rw [sep_emp_eq]; rfl

/-- The opposite message, as a permutation of the six. -/
def opE : Fin 6 ≃ Fin 6 := ⟨op, op, op_op, op_op⟩

theorem wzmid (c : Dev nD) : Scalar.cmpi .ne (Scalar.extui (Scalar.andi (Scalar.cmpi .sgt (wz c) 0#32) (Scalar.cmpi .slt (wz c) 3#32)) : BitVec 32) 0#32 = 1#1 ↔ has 4 c ∧ has 5 c := by
  revert c; decide

/-- Of the messages along one axis a device has one, and what it holds for it is what it holds for the one it has. -/
theorem pick_x (Φ : Fin 6 → sProp 𝕄) : iprop(opt (has 0 c) (Φ 0) ∗ opt (has 1 c) (Φ 1)) ⊢ Φ (sx c) := by
  by_cases h : cx c = 0
  · rw [show sx c = 0 from if_pos h, opt_pos (show has 0 c from (by revert h; revert c; decide))]
    exact sep_elim_left
  · rw [show sx c = 1 from if_neg h, opt_pos (show has 1 c from (by revert h; revert c; decide))]
    exact sep_elim_right
theorem pick_y (Φ : Fin 6 → sProp 𝕄) : iprop(opt (has 2 c) (Φ 2) ∗ opt (has 3 c) (Φ 3)) ⊢ Φ (sy c) := by
  by_cases h : cy c = 0
  · rw [show sy c = 2 from if_pos h, opt_pos (show has 2 c from (by revert h; revert c; decide))]
    exact sep_elim_left
  · rw [show sy c = 3 from if_neg h, opt_pos (show has 3 c from (by revert h; revert c; decide))]
    exact sep_elim_right

/-- The cleared halo buffer and the rights to signal: what each signal takes, and the slots no signal hands over. -/
theorem sig_split : iprop(hwh c hz ∗ bigSep Finset.univ fun t => dutyTok ER (barCell (peer t c)) 0 (op t))
    ⊢ iprop((bigSep Finset.univ fun t => opt (has t c) (sigR c t)) ∗ bigSep Finset.univ fun s => opt (¬ has (op s) c) (hpts s c hz) : sProp 𝕄) := by
  unfold hwh
  rw [hpts_all, bigSep_univ_equiv opE (fun s => (hpts s c hz : sProp 𝕄)), bigSep_univ_equiv opE (fun s => (opt (¬ has (op s) c) (hpts s c hz) : sProp 𝕄)),
    ← bigSep_sep', ← bigSep_sep']
  refine bigSep_mono fun t _ => ?_
  show iprop(hpts (op t) c hz ∗ _) ⊢ iprop(_ ∗ opt (¬ has (op (op t)) c) (hpts (op t) c hz))
  rw [op_op]
  by_cases h : has t c
  · rw [opt_pos h, opt_neg (fun h' => h' h)]; unfold sigR; iintro H; isplitl [H]
    · iexact H
    · iempintro
  · rw [opt_neg h, opt_pos h]; iintro ⟨Hh, -⟩; isplitr
    · iempintro
    · iexact Hh

/-- The packed planes, the neighbours' slots and the rights to credit: what each transfer takes, and the slots not sent. -/
theorem snd_split : iprop((bigSep Finset.univ fun s => sst m s c) ∗ bigSep (dut none c) (pay m none c)
      ∗ (bigSep Finset.univ fun s => dutyTok ER (sndCell s c) 0 s) ∗ bigSep Finset.univ fun s => dutyTok ER (rcvCell s (peer s c)) 0 s)
    ⊢ iprop((bigSep Finset.univ fun s => opt (has s c) (sndR m c s)) ∗ bigSep Finset.univ fun s => opt (¬ has s c) iprop(∃ f, spts s c f) : sProp 𝕄) := by
  rw [show bigSep (dut none c) (pay m none c) = bigSep Finset.univ fun s => opt (has s c) (pay m none c s) from bigSep_filter _ _ _,
    ← bigSep_sep', ← bigSep_sep', ← bigSep_sep', ← bigSep_sep']
  refine bigSep_mono fun s _ => ?_
  unfold sst
  by_cases h : has s c
  · rw [if_pos h, opt_pos h, opt_pos h, opt_neg (fun h' => h' h)]
    exact Entails.of_eq (sep_emp_eq _).symm
  · rw [if_neg h, opt_neg h, opt_neg h, opt_pos h]
    exact sep_elim_left.trans (Entails.of_eq (emp_sep_eq _).symm)

/-- A slot can be copied, and a slot can be copied to a device's slot on the slot's cells. -/
theorem exS (s : Fin 6) : (slot sM s : Memref sig .tc .vmem S64x64 .f32).view.WordExact := (View.wordExact_bits rfl).reshape _ _
theorem exH (s : Fin 6) : (slot hM s : Memref sig .tc .vmem S64x64 .f32).view.WordExact := (View.wordExact_bits rfl).reshape _ _
theorem typed (s : Fin 6) (n : Dev nD) : DmaTarget.Typed (p := .tc) .vmem (.dma (rcvS s)) (.remote (Dev.tc n : Thread nD τ) (slot hM s : Memref sig .tc .vmem S64x64 .f32) (.dma (sndS s)) rfl) :=
  by exact ⟨⟨rfl, Or.inl rfl⟩, trivial⟩

set_option maxHeartbeats 2000000 in
/-- The first part: the halo buffer cleared, the first five planes packed. -/
theorem part1 {Q : (Σ' (d0 : Dev nD) (v2 : BitVec 32) (v5 : BitVec 32) (v8 : BitVec 32), BitVec 1) → sProp 𝕄} :
    iprop(xpts m c ∗ (∃ f, hwh c f) ∗ (∃ f, spts 0 c f) ∗ (∃ f, spts 1 c f) ∗ (∃ f, spts 2 c f) ∗ (∃ f, spts 3 c f) ∗ (∃ f, spts 4 c f))
      ⊢ iprop(((xpts m c ∗ hwh c hz ∗ sst m 0 c ∗ sst m 1 c ∗ sst m 2 c ∗ sst m 3 c ∗ sst m 4 c) -∗ Q ⟨c, wx c, wy c, wz c, tst .sgt (wz c) 0#32⟩)
        -∗ WP c (k0_part1 xM (Memref.isWhole_whole _) oM (Memref.isWhole_whole _) sM (Memref.isWhole_whole _) hM (Memref.isWhole_whole _) cc0_scratch2 cc0_scratch3) Q) := by
  rw [k0_part1_eq_skeleton]; unfold k0_part1_skel
  simp -zeta -zetaHave only [semSignalWord, semWaitWord, Prog.lift, Prog.bind_op, Prog.bind_ret, Prog.pure_eq_ret, WP]
  rw [wp_deviceId]
  unfold hwh
  iintro ⟨Hx, ⟨%f0, Hh⟩, Hs0, Hs1, Hs2, Hs3, Hs4⟩ Hk
  iapply (wp_load 𝒱₀ (c : Thread nD τ) none Set.univ (m := hM) (Finset.subset_univ _)) $$ Hh; iintro Hh
  iapply (wp_store 𝒱₀ (c : Thread nD τ) none Set.univ (m := hM) (r := rH) (Mk := Finset.univ) (Finset.subset_univ _)) $$ Hh; iintro Hh
  rw [st_halo]
  iapply (wp_pack m c 0 (r := rX1.toLoadRect) (wx0 c) k0_pay4 rfl) $$ [Hx Hs0]
  · isplitl [Hx] <;> iassumption
  iintro ⟨Hx, Hs0⟩
  iapply (wp_pack m c 1 (r := rX0.toLoadRect) (wx1 c) k0_pay5 rfl) $$ [Hx Hs1]
  · isplitl [Hx] <;> iassumption
  iintro ⟨Hx, Hs1⟩
  iapply (wp_pack m c 2 (r := rY1.toLoadRect) (wy0 c) k0_pay6 rfl) $$ [Hx Hs2]
  · isplitl [Hx] <;> iassumption
  iintro ⟨Hx, Hs2⟩
  iapply (wp_pack m c 3 (r := rY0.toLoadRect) (wy1 c) k0_pay7 rfl) $$ [Hx Hs3]
  · isplitl [Hx] <;> iassumption
  iintro ⟨Hx, Hs3⟩
  iapply (wp_pack m c 4 (r := rZ1.toLoadRect) (wzlt c) k0_pay8 rfl) $$ [Hx Hs4]
  · isplitl [Hx] <;> iassumption
  iintro ⟨Hx, Hs4⟩
  unfold WP
  rw [wp_ret]; imodintro
  rw [show ((c : Thread nD τ)).1 = c from rfl, show Scalar.remsi (Scalar.divsi c.word 8#32) 2#32 = wx c from rfl, show Scalar.remsi (Scalar.divsi c.word 4#32) 2#32 = wy c from rfl,
    show Scalar.remsi (Scalar.divsi c.word 1#32) 4#32 = wz c from rfl]
  iapply Hk
  isplitl [Hx]; · iexact Hx
  isplitl [Hh]; · iexact Hh
  isplitl [Hs0]; · iexact Hs0
  isplitl [Hs1]; · iexact Hs1
  isplitl [Hs2]; · iexact Hs2
  isplitl [Hs3]; · iexact Hs3
  iexact Hs4

set_option maxHeartbeats 2000000 in
/-- The second part: the last plane packed, the neighbours signalled, their signals awaited, and the first plane sent. -/
theorem part2 {Q : PUnit → sProp 𝕄} :
    iprop(records m K ∗ xpts m c ∗ hwh c hz ∗ (sst m 0 c ∗ sst m 1 c ∗ sst m 2 c ∗ sst m 3 c ∗ sst m 4 c) ∗ (∃ f, spts 5 c f)
        ∗ (bigSep Finset.univ fun t => dutyTok ER (barCell (peer t c)) 0 (op t))
        ∗ (bigSep Finset.univ fun s => dutyTok ER (sndCell s c) 0 s) ∗ (bigSep Finset.univ fun s => dutyTok ER (rcvCell s (peer s c)) 0 s)
        ∗ cred (tallyAt (barCell c) () (cnt c)) ∗ ow c (O₀ c) ∗ levAts L lv ∗ atPos ER (barCell c) 0 ∅ 0)
      ⊢ iprop(((xpts m c ∗ (bigSep Finset.univ fun s => opt (¬ has (op s) c) (hpts s c hz)) ∗ (bigSep Finset.univ fun s => opt (¬ has s c) iprop(∃ f, spts s c f))
            ∗ semVal (barCell c) 0 ∗ opt (has 0 c) (cred (tallyAt (sndCell 0 c) () N))
            ∗ (opt (has 1 c) (sndR m c 1) ∗ opt (has 2 c) (sndR m c 2) ∗ opt (has 3 c) (sndR m c 3) ∗ opt (has 4 c) (sndR m c 4) ∗ opt (has 5 c) (sndR m c 5))
            ∗ ow c (owe c [1, 2, 3, 4, 5])) -∗ Q ⟨⟩)
        -∗ WP c (k0_part2 xM (Memref.isWhole_whole _) oM (Memref.isWhole_whole _) sM (Memref.isWhole_whole _) hM (Memref.isWhole_whole _) cc0_scratch2 cc0_scratch3 c (wx c) (wy c) (wz c) (tst .sgt (wz c) 0#32)) Q) := by
  rw [k0_part2_eq_skeleton]; unfold k0_part2_skel
  simp -zeta -zetaHave only [semSignalWord, semWaitWord, Prog.lift, Prog.bind_op, Prog.bind_ret, Prog.pure_eq_ret, WP]
  iintro ⟨#HK, Hx, Hh, Hss, Hs5, Htb, Hts, Htr, Hcb, HO, #Hlev, Hat⟩ Hk
  iapply (wp_pack m c 5 (r := rZ0.toLoadRect) (wzgt c) k0_pay9 rfl) $$ [Hx Hs5]
  · isplitl [Hx] <;> iassumption
  iintro ⟨Hx, Hs5⟩
  ihave H := (sig_split c) $$ [Hh Htb]
  · isplitl [Hh] <;> iassumption
  icases H with ⟨Hsig, Hkeep⟩
  ihave Hsig := (Entails.of_eq (six_sep fun t => opt (has t c) (sigR c t))) $$ Hsig
  icases Hsig with ⟨Hg0, Hg1, Hg2, Hg3, Hg4, Hg5⟩
  ihave Hgx := (pick_x c (sigR c)) $$ [Hg0 Hg1]
  · isplitl [Hg0] <;> iassumption
  ihave Hgy := (pick_y c (sigR c)) $$ [Hg2 Hg3]
  · isplitl [Hg2] <;> iassumption
  unfold O₀
  iapply (wp_sig m c K (sx c) (has_sx c) _ (dev1_eq c) _) $$ [Hgx HO]
  · isplitr; · iexact HK
    isplitl [Hgx]; · iexact Hgx
    iexact HO
  iintro HO
  iapply (wp_sig m c K (sy c) (has_sy c) _ (dev2_eq c) _) $$ [Hgy HO]
  · isplitr; · iexact HK
    isplitl [Hgy]; · iexact Hgy
    iexact HO
  iintro HO
  iapply (wp_sig_if m c K 5 (cond7_iff c) _ (dev3_eq c) _) $$ [Hg5 HO]
  · isplitr; · iexact HK
    isplitl [Hg5]; · iexact Hg5
    iexact HO
  iintro HO
  iapply (wp_sig_if m c K 4 (cond8_iff c) _ (dev4_eq c) _) $$ [Hg4 HO]
  · isplitr; · iexact HK
    isplitl [Hg4]; · iexact Hg4
    iexact HO
  iintro HO
  iapply (wp_bar m c K (wzmid c) six) $$ [Hcb HO Hat]
  · isplitr; · iexact HK
    isplitl [Hcb]; · iexact Hcb
    isplitl [HO]; · iexact HO
    isplitr; · iexact Hlev
    iexact Hat
  iintro ⟨Hbar, Hz, HO⟩
  icases Hss with ⟨Hs0, Hs1, Hs2, Hs3, Hs4⟩
  ihave H := (snd_split m c) $$ [Hs0 Hs1 Hs2 Hs3 Hs4 Hs5 Hbar Hts Htr]
  · isplitl [Hs0 Hs1 Hs2 Hs3 Hs4 Hs5]
    · iapply (Entails.of_eq (six_sep fun s => sst m s c).symm)
      isplitl [Hs0]; · iexact Hs0
      isplitl [Hs1]; · iexact Hs1
      isplitl [Hs2]; · iexact Hs2
      isplitl [Hs3]; · iexact Hs3
      isplitl [Hs4]; · iexact Hs4
      iexact Hs5
    isplitl [Hbar]; · iexact Hbar
    isplitl [Hts]; · iexact Hts
    iexact Htr
  icases H with ⟨Hsend, HkeepS⟩
  ihave Hsend := (Entails.of_eq (six_sep fun s => opt (has s c) (sndR m c s))) $$ Hsend
  icases Hsend with ⟨Hn0, Hns⟩
  iapply (wp_snd_if m c K 0 (cond10_iff c) _ (dev5_eq c) [1, 2, 3, 4, 5] (hsc := fun _ => rfl) (hsrc := exS 0) (hdst := exH 0) (hsem := fun _ => typed 0 _)) $$ [Hn0 HO]
  · isplitr; · iexact HK
    isplitl [Hn0]; · iexact Hn0
    iexact HO
  iintro ⟨Hc0, HO⟩
  unfold WP
  rw [wp_ret]; imodintro
  iapply Hk
  isplitl [Hx]; · iexact Hx
  isplitl [Hkeep]; · iexact Hkeep
  isplitl [HkeepS]; · iexact HkeepS
  isplitl [Hz]; · iexact Hz
  isplitl [Hc0]; · iexact Hc0
  isplitl [Hns]; · iexact Hns
  iexact HO

set_option maxHeartbeats 2000000 in
/-- The third part: the other planes sent, the block loaded. -/
theorem part3 {Q : (Σ' (v77 : FVec F S64x64x64 .bf16) (v97 : FVec F S64x64x64 .bf16), F .bf16) → sProp 𝕄} :
    iprop(records m K ∗ xpts m c ∗ (opt (has 1 c) (sndR m c 1) ∗ opt (has 2 c) (sndR m c 2) ∗ opt (has 3 c) (sndR m c 3) ∗ opt (has 4 c) (sndR m c 4) ∗ opt (has 5 c) (sndR m c 5))
        ∗ ow c (owe c [1, 2, 3, 4, 5]))
      ⊢ iprop(((xpts m c ∗ (opt (has 1 c) (cred (tallyAt (sndCell 1 c) () N)) ∗ opt (has 2 c) (cred (tallyAt (sndCell 2 c) () N)) ∗ opt (has 3 c) (cred (tallyAt (sndCell 3 c) () N))
            ∗ opt (has 4 c) (cred (tallyAt (sndCell 4 c) () N)) ∗ opt (has 5 c) (cred (tallyAt (sndCell 5 c) () N))) ∗ ow c 0)
          -∗ Q ⟨k0_pay10 (xs m c), k0_pay11 (xs m c), Scalar.ofBits .bf16 0x40C0#16⟩)
        -∗ WP c (k0_part3 xM (Memref.isWhole_whole _) oM (Memref.isWhole_whole _) sM (Memref.isWhole_whole _) hM (Memref.isWhole_whole _) cc0_scratch2 cc0_scratch3 c (wx c) (wy c) (wz c)) Q) := by
  rw [k0_part3_eq_skeleton]; unfold k0_part3_skel
  simp -zeta -zetaHave only [semSignalWord, semWaitWord, Prog.lift, Prog.bind_op, Prog.bind_ret, Prog.pure_eq_ret, WP]
  iintro ⟨#HK, Hx, ⟨Hn1, Hn2, Hn3, Hn4, Hn5⟩, HO⟩ Hk
  iapply (wp_snd_if m c K 1 (cond11_iff c) _ (dev6_eq c) [2, 3, 4, 5] (hsc := fun _ => rfl) (hsrc := exS 1) (hdst := exH 1) (hsem := fun _ => typed 1 _)) $$ [Hn1 HO]
  · isplitr; · iexact HK
    isplitl [Hn1]; · iexact Hn1
    iexact HO
  iintro ⟨Hc1, HO⟩
  iapply (wp_snd_if m c K 2 (cond12_iff c) _ (dev7_eq c) [3, 4, 5] (hsc := fun _ => rfl) (hsrc := exS 2) (hdst := exH 2) (hsem := fun _ => typed 2 _)) $$ [Hn2 HO]
  · isplitr; · iexact HK
    isplitl [Hn2]; · iexact Hn2
    iexact HO
  iintro ⟨Hc2, HO⟩
  iapply (wp_snd_if m c K 3 (cond13_iff c) _ (dev8_eq c) [4, 5] (hsc := fun _ => rfl) (hsrc := exS 3) (hdst := exH 3) (hsem := fun _ => typed 3 _)) $$ [Hn3 HO]
  · isplitr; · iexact HK
    isplitl [Hn3]; · iexact Hn3
    iexact HO
  iintro ⟨Hc3, HO⟩
  iapply (wp_snd_if m c K 4 (cond14_iff c) _ (dev9_eq c) [5] (hsc := fun _ => rfl) (hsrc := exS 4) (hdst := exH 4) (hsem := fun _ => typed 4 _)) $$ [Hn4 HO]
  · isplitr; · iexact HK
    isplitl [Hn4]; · iexact Hn4
    iexact HO
  iintro ⟨Hc4, HO⟩
  iapply (wp_snd_if m c K 5 (cond15_iff c) _ (dev10_eq c) [] (hsc := fun _ => rfl) (hsrc := exS 5) (hdst := exH 5) (hsem := fun _ => typed 5 _)) $$ [Hn5 HO]
  · isplitr; · iexact HK
    isplitl [Hn5]; · iexact Hn5
    iexact HO
  iintro ⟨Hc5, HO⟩
  unfold xpts
  iapply (wp_load 𝒱₀ (c : Thread nD τ) none Set.univ (m := xM) (Finset.subset_univ _)) $$ Hx; iintro Hx
  rw [ld_all, wp_ret]; imodintro
  iapply Hk
  isplitl [Hx]; · iexact Hx
  isplitl [Hc1 Hc2 Hc3 Hc4 Hc5]
  · isplitl [Hc1]; · iexact Hc1
    isplitl [Hc2]; · iexact Hc2
    isplitl [Hc3]; · iexact Hc3
    isplitl [Hc4]; · iexact Hc4
    iexact Hc5
  iexact HO

/-- What the wait for message `s` takes. -/
def rcvP (s : Fin 6) : sProp 𝕄 :=
  iprop(opt (has (op s) c) (cred (tallyAt (rcvCell s c) () N)) ∗ atPos ER (rcvCell s c) 0 ∅ 0 ∗ opt (¬ has (op s) c) (hpts s c hz))

/-- A plane stored in the result. -/
theorem wp_put (r : Rect S64x64x64) (f : Vec F S64x64x64 .f32) (w : FVec F r.shape .f32)
    {hx : ((oM : Memref sig .tc .vmem S64x64x64 .f32).access r).Stores Finset.univ} {hm}
    {α : Type} {Q : α → sProp 𝕄} {k : PUnit → Prog (TpuEff nD τ sig (Elt F) Λ₀ .tc) α} :
    iprop(opts c f) ⊢ iprop((opts c (st r f w) -∗ WP c (k ⟨⟩) Q) -∗ WP c (.op (.store oM r w Finset.univ hx hm) k) Q) := by
  unfold opts
  iintro Ho Hk
  iapply (wp_store 𝒱₀ (c : Thread nD τ) none Set.univ (m := oM) (r := r) (Mk := Finset.univ) (Finset.subset_univ _)) $$ Ho; iintro Ho
  iapply Hk
  iexact Ho

/-- A rectangle of the result read, and a slot of the full halo buffer. -/
theorem wp_get (r : Rect S64x64x64) (f : Vec F S64x64x64 .f32) {hl : (oM : Memref sig .tc .vmem S64x64x64 .f32).view.LoadsAt r.toLoadRect}
    {α : Type} {Q : α → sProp 𝕄} {k : Vec F r.shape .f32 → Prog (TpuEff nD τ sig (Elt F) Λ₀ .tc) α} :
    iprop(opts c f) ⊢ iprop((opts c f -∗ WP c (k (ld r f)) Q) -∗ WP c (.op (.load oM r.toLoadRect hl) k) Q) := by
  unfold opts
  iintro Ho Hk
  iapply (wp_load 𝒱₀ (c : Thread nD τ) none Set.univ (m := oM) (Finset.subset_univ _)) $$ Ho; iintro Ho
  iapply Hk
  iexact Ho
theorem wp_halo (s : Fin 6) {hl : (hM : Memref sig .tc .vmem S6x64x64 .f32).view.LoadsAt (rSlot s).toLoadRect}
    {α : Type} {Q : α → sProp 𝕄} {k : Vec F S1x64x64 .f32 → Prog (TpuEff nD τ sig (Elt F) Λ₀ .tc) α} :
    iprop(hwh c (hal m c)) ⊢ iprop((hwh c (hal m c) -∗ WP c (k (got (xs m) c s)) Q) -∗ WP c (.op (.load hM (rSlot s).toLoadRect hl) k) Q) := by
  unfold hwh
  iintro Hh Hk
  iapply (wp_load 𝒱₀ (c : Thread nD τ) none Set.univ (m := hM) (Finset.subset_univ _)) $$ Hh; iintro Hh
  rw [show (hM : Memref sig .tc .vmem S6x64x64 .f32).view.readAt (Elt F) (rSlot s).toLoadRect (hal m c) = got (xs m) c s from readAt_slotc _ s]
  iapply Hk
  iexact Hh

set_option maxHeartbeats 2000000 in
/-- The fourth part: the sums of the block itself stored, every plane awaited, the first face read. -/
theorem part4 {Q : (Σ' (v125 : FVec F S64x64 .f32), Vec F S1x64x64 .f32) → sProp 𝕄} :
    iprop(records m K ∗ (∃ f, opts c f) ∗ (rcvP c 0 ∗ rcvP c 1 ∗ rcvP c 2 ∗ rcvP c 3 ∗ rcvP c 4 ∗ rcvP c 5) ∗ ow c 0)
      ⊢ iprop(((opts c (b0 (xs m c)) ∗ hwh c (hal m c) ∗ (semVal (rcvCell 0 c) 0 ∗ semVal (rcvCell 1 c) 0 ∗ semVal (rcvCell 2 c) 0 ∗ semVal (rcvCell 3 c) 0 ∗ semVal (rcvCell 4 c) 0 ∗ semVal (rcvCell 5 c) 0) ∗ ow c 0)
          -∗ Q ⟨k0_pay13 (ld rX0 (b0 (xs m c))) (got (xs m) c 0), ld rX0 (b0 (xs m c))⟩)
        -∗ WP c (k0_part4 xM (Memref.isWhole_whole _) oM (Memref.isWhole_whole _) sM (Memref.isWhole_whole _) hM (Memref.isWhole_whole _) cc0_scratch2 cc0_scratch3 (wx c) (wy c) (wz c) (k0_pay10 (xs m c)) (k0_pay11 (xs m c)) (Scalar.ofBits .bf16 0x40C0#16)) Q) := by
  rw [k0_part4_eq_skeleton]; unfold k0_part4_skel
  simp -zeta -zetaHave only [semSignalWord, semWaitWord, Prog.lift, Prog.bind_op, Prog.bind_ret, Prog.pure_eq_ret, WP]
  unfold rcvP
  iintro ⟨#HK, ⟨%f0, Ho⟩, ⟨⟨Hc0, Ha0, Hk0⟩, ⟨Hc1, Ha1, Hk1⟩, ⟨Hc2, Ha2, Hk2⟩, ⟨Hc3, Ha3, Hk3⟩, ⟨Hc4, Ha4, Hk4⟩, ⟨Hc5, Ha5, Hk5⟩⟩, HO⟩ Hk
  iapply (wp_get c rA f0) $$ Ho; iintro Ho
  iapply (wp_put c rA f0 (k0_pay12 (k0_pay10 (xs m c)) (k0_pay11 (xs m c)) (Scalar.ofBits .bf16 0x40C0#16))) $$ Ho; iintro Ho
  rw [st_all, show k0_pay12 (k0_pay10 (xs m c)) (k0_pay11 (xs m c)) (Scalar.ofBits .bf16 0x40C0#16) = b0 (xs m c) from rfl]
  iapply (wp_rcv_if m c K 0 (wx1 c)) $$ [Hc0 HO Ha0 Hk0]
  · isplitr; · iexact HK
    isplitl [Hc0]; · iexact Hc0
    isplitl [HO]; · iexact HO
    isplitl [Ha0]; · iexact Ha0
    iexact Hk0
  iintro ⟨Hh0, Hz0, HO⟩
  iapply (wp_rcv_if m c K 1 (wx0 c)) $$ [Hc1 HO Ha1 Hk1]
  · isplitr; · iexact HK
    isplitl [Hc1]; · iexact Hc1
    isplitl [HO]; · iexact HO
    isplitl [Ha1]; · iexact Ha1
    iexact Hk1
  iintro ⟨Hh1, Hz1, HO⟩
  iapply (wp_rcv_if m c K 2 (wy1 c)) $$ [Hc2 HO Ha2 Hk2]
  · isplitr; · iexact HK
    isplitl [Hc2]; · iexact Hc2
    isplitl [HO]; · iexact HO
    isplitl [Ha2]; · iexact Ha2
    iexact Hk2
  iintro ⟨Hh2, Hz2, HO⟩
  iapply (wp_rcv_if m c K 3 (wy0 c)) $$ [Hc3 HO Ha3 Hk3]
  · isplitr; · iexact HK
    isplitl [Hc3]; · iexact Hc3
    isplitl [HO]; · iexact HO
    isplitl [Ha3]; · iexact Ha3
    iexact Hk3
  iintro ⟨Hh3, Hz3, HO⟩
  iapply (wp_rcv_if m c K 4 (wzgt c)) $$ [Hc4 HO Ha4 Hk4]
  · isplitr; · iexact HK
    isplitl [Hc4]; · iexact Hc4
    isplitl [HO]; · iexact HO
    isplitl [Ha4]; · iexact Ha4
    iexact Hk4
  iintro ⟨Hh4, Hz4, HO⟩
  iapply (wp_rcv_if m c K 5 (wzlt c)) $$ [Hc5 HO Ha5 Hk5]
  · isplitr; · iexact HK
    isplitl [Hc5]; · iexact Hc5
    isplitl [HO]; · iexact HO
    isplitl [Ha5]; · iexact Ha5
    iexact Hk5
  iintro ⟨Hh5, Hz5, HO⟩
  ihave Hh := (Entails.of_eq (((show hwh c (hal m c) = _ from rfl).trans (hpts_all c (hal m c))).trans (six_sep fun s => hpts s c (hal m c))).symm) $$ [Hh0 Hh1 Hh2 Hh3 Hh4 Hh5]
  · isplitl [Hh0]; · iexact Hh0
    isplitl [Hh1]; · iexact Hh1
    isplitl [Hh2]; · iexact Hh2
    isplitl [Hh3]; · iexact Hh3
    isplitl [Hh4]; · iexact Hh4
    iexact Hh5
  iapply (wp_get c rX0 (b0 (xs m c))) $$ Ho; iintro Ho
  iapply (wp_halo m c 0) $$ Hh; iintro Hh
  iapply (wp_get c rX0 (b0 (xs m c))) $$ Ho; iintro Ho
  unfold WP
  rw [wp_ret]; imodintro
  iapply Hk
  isplitl [Ho]; · iexact Ho
  isplitl [Hh]; · iexact Hh
  isplitl [Hz0 Hz1 Hz2 Hz3 Hz4 Hz5]
  · isplitl [Hz0]; · iexact Hz0
    isplitl [Hz1]; · iexact Hz1
    isplitl [Hz2]; · iexact Hz2
    isplitl [Hz3]; · iexact Hz3
    isplitl [Hz4]; · iexact Hz4
    iexact Hz5
  iexact HO

/-- A halo plane added on one face. -/
theorem wp_face (s : Fin 6) (r : Rect S64x64x64) (f : Vec F S64x64x64 .f32) (g : Vec F r.shape .f32 → Vec F S1x64x64 .f32 → FVec F r.shape .f32)
    {hl hl2 : (oM : Memref sig .tc .vmem S64x64x64 .f32).view.LoadsAt r.toLoadRect} {hl' : (hM : Memref sig .tc .vmem S6x64x64 .f32).view.LoadsAt (rSlot s).toLoadRect}
    {hx : ((oM : Memref sig .tc .vmem S64x64x64 .f32).access r).Stores Finset.univ} {hm}
    {α : Type} {Q : α → sProp 𝕄} {k : PUnit → Prog (TpuEff nD τ sig (Elt F) Λ₀ .tc) α} :
    iprop(opts c f ∗ hwh c (hal m c))
      ⊢ iprop(((opts c (st r f (g (ld r f) (got (xs m) c s))) ∗ hwh c (hal m c)) -∗ WP c (k ⟨⟩) Q)
        -∗ WP c (.op (.load oM r.toLoadRect hl) fun a => .op (.load hM (rSlot s).toLoadRect hl') fun b => .op (.load oM r.toLoadRect hl2) fun _ =>
            .op (.store oM r (g a b) Finset.univ hx hm) k) Q) := by
  iintro ⟨Ho, Hh⟩ Hk
  iapply (wp_get c r f) $$ Ho; iintro Ho
  iapply (wp_halo m c s) $$ Hh; iintro Hh
  iapply (wp_get c r f) $$ Ho; iintro Ho
  iapply (wp_put c r f (g (ld r f) (got (xs m) c s))) $$ Ho; iintro Ho
  iapply Hk
  isplitl [Ho]; · iexact Ho
  iexact Hh

set_option maxHeartbeats 2000000 in
/-- The fifth part: the planes of the first two axes added. -/
theorem part5 (v : Vec F S1x64x64 .f32) {Q : PUnit → sProp 𝕄} :
    iprop(opts c (b0 (xs m c)) ∗ hwh c (hal m c))
      ⊢ iprop(((opts c (b4 (xs m c) (got (xs m) c)) ∗ hwh c (hal m c)) -∗ Q ⟨⟩)
        -∗ WP c (k0_part5 xM (Memref.isWhole_whole _) oM (Memref.isWhole_whole _) sM (Memref.isWhole_whole _) hM (Memref.isWhole_whole _) cc0_scratch2 cc0_scratch3 (k0_pay13 (ld rX0 (b0 (xs m c))) (got (xs m) c 0)) v) Q) := by
  rw [k0_part5_eq_skeleton]; unfold k0_part5_skel
  simp -zeta -zetaHave only [semSignalWord, semWaitWord, Prog.lift, Prog.bind_op, Prog.bind_ret, Prog.pure_eq_ret, WP]
  iintro ⟨Ho, Hh⟩ Hk
  iapply (wp_put c rX0 (b0 (xs m c)) (k0_pay14 (k0_pay13 (ld rX0 (b0 (xs m c))) (got (xs m) c 0)))) $$ Ho; iintro Ho
  iapply (wp_face m c 1 rX1 (b1 (xs m c) (got (xs m) c)) k0_pay15) $$ [Ho Hh]
  · isplitl [Ho]; · iexact Ho
    iexact Hh
  iintro ⟨Ho, Hh⟩
  iapply (wp_face m c 2 rY0 (b2 (xs m c) (got (xs m) c)) k0_pay16) $$ [Ho Hh]
  · isplitl [Ho]; · iexact Ho
    iexact Hh
  iintro ⟨Ho, Hh⟩
  iapply (wp_face m c 3 rY1 (b3 (xs m c) (got (xs m) c)) k0_pay17) $$ [Ho Hh]
  · isplitl [Ho]; · iexact Ho
    iexact Hh
  iintro ⟨Ho, Hh⟩
  unfold WP
  rw [wp_ret]; imodintro
  iapply Hk
  isplitl [Ho]; · iexact Ho
  iexact Hh

set_option maxHeartbeats 2000000 in
/-- The sixth part: the planes of the third axis added, the faces across the first two axes cleared on the grid's boundary. -/
theorem part6 {Q : (Σ' (v169 : FVec F S64x64 .f32), BitVec 32) → sProp 𝕄} :
    iprop(opts c (b4 (xs m c) (got (xs m) c)) ∗ hwh c (hal m c))
      ⊢ iprop(((opts c (b7 c (xs m c) (got (xs m) c)) ∗ hwh c (hal m c)) -∗ Q ⟨k0_pay20, 0#32⟩)
        -∗ WP c (k0_part6 xM (Memref.isWhole_whole _) oM (Memref.isWhole_whole _) sM (Memref.isWhole_whole _) hM (Memref.isWhole_whole _) cc0_scratch2 cc0_scratch3 (wx c) (wy c)) Q) := by
  rw [k0_part6_eq_skeleton]; unfold k0_part6_skel
  simp -zeta -zetaHave only [semSignalWord, semWaitWord, Prog.lift, Prog.bind_op, Prog.bind_ret, Prog.pure_eq_ret, WP]
  iintro ⟨Ho, Hh⟩ Hk
  iapply (wp_face m c 4 rZ0 (b4 (xs m c) (got (xs m) c)) k0_pay18) $$ [Ho Hh]
  · isplitl [Ho]; · iexact Ho
    iexact Hh
  iintro ⟨Ho, Hh⟩
  iapply (wp_face m c 5 rZ1 (b5 (xs m c) (got (xs m) c)) k0_pay19) $$ [Ho Hh]
  · isplitl [Ho]; · iexact Ho
    iexact Hh
  iintro ⟨Ho, Hh⟩
  iapply (wp_clear c (wx0 c) (r := rX0) _ k0_pay21) $$ Ho; iintro Ho
  iapply (wp_clear c (wx1 c) (r := rX1) _ k0_pay22) $$ Ho; iintro Ho
  iapply (wp_clear c (wy0 c) (r := rY0) _ k0_pay23) $$ Ho; iintro Ho
  iapply (wp_clear c (wy1 c) (r := rY1) _ k0_pay24) $$ Ho; iintro Ho
  unfold WP
  rw [wp_ret]; imodintro
  iapply Hk
  isplitl [Ho]; · iexact Ho
  iexact Hh

set_option maxHeartbeats 2000000 in
/-- The whole body: from the block, the buffers, the rights and the credits to the result, everything given back and every cell closed. -/
theorem body {Q : PUnit → sProp 𝕄} :
    iprop(records m K ∗ xpts m c ∗ (∃ f, opts c f) ∗ (∃ f, hwh c f) ∗ (bigSep Finset.univ fun s => iprop(∃ f, spts s c f))
        ∗ (bigSep Finset.univ fun t => dutyTok ER (barCell (peer t c)) 0 (op t))
        ∗ (bigSep Finset.univ fun s => dutyTok ER (sndCell s c) 0 s) ∗ (bigSep Finset.univ fun s => dutyTok ER (rcvCell s (peer s c)) 0 s)
        ∗ cred (tallyAt (barCell c) () (cnt c)) ∗ (bigSep Finset.univ fun s => opt (has (op s) c) (cred (tallyAt (rcvCell s c) () N)))
        ∗ ow c (O₀ c) ∗ levAts L lv ∗ atPos ER (barCell c) 0 ∅ 0
        ∗ (bigSep Finset.univ fun s => atPos ER (sndCell s c) 0 ∅ 0) ∗ (bigSep Finset.univ fun s => atPos ER (rcvCell s c) 0 ∅ 0))
      ⊢ iprop(((xpts m c ∗ opts c (outv (xs m) c) ∗ hwh c (hal m c) ∗ (bigSep Finset.univ fun s => iprop(∃ f, spts s c f)) ∗ ow c 0
            ∗ semVal (barCell c) 0 ∗ (bigSep Finset.univ fun s => semVal (sndCell s c) 0) ∗ (bigSep Finset.univ fun s => semVal (rcvCell s c) 0)) -∗ Q ⟨⟩)
        -∗ WP c (cc0_body xM (Memref.isWhole_whole _) oM (Memref.isWhole_whole _) sM (Memref.isWhole_whole _) hM (Memref.isWhole_whole _) cc0_scratch2 cc0_scratch3) Q) := by
  rw [cc0_body_eq_skeleton]; unfold cc0_body_skel
  iintro ⟨#HK, Hx, Ho, Hh, Hs, Htb, Hts, Htr, Hcb, Hcr, HO, #Hlev, Hab, Has, Har⟩ Hk
  ihave Hs := (Entails.of_eq (six_sep fun s => iprop(∃ f, spts s c f))) $$ Hs
  icases Hs with ⟨Hs0, Hs1, Hs2, Hs3, Hs4, Hs5⟩
  unfold WP
  rw [wp_bind]
  iapply (part1 m c) $$ [Hx Hh Hs0 Hs1 Hs2 Hs3 Hs4]
  · isplitl [Hx]; · iexact Hx
    isplitl [Hh]; · iexact Hh
    isplitl [Hs0]; · iexact Hs0
    isplitl [Hs1]; · iexact Hs1
    isplitl [Hs2]; · iexact Hs2
    isplitl [Hs3]; · iexact Hs3
    iexact Hs4
  iintro ⟨Hx, Hh, Hss⟩
  dsimp only
  rw [wp_bind]
  iapply (part2 m c K) $$ [Hx Hh Hss Hs5 Htb Hts Htr Hcb HO Hab]
  · isplitr; · iexact HK
    isplitl [Hx]; · iexact Hx
    isplitl [Hh]; · iexact Hh
    isplitl [Hss]; · iexact Hss
    isplitl [Hs5]; · iexact Hs5
    isplitl [Htb]; · iexact Htb
    isplitl [Hts]; · iexact Hts
    isplitl [Htr]; · iexact Htr
    isplitl [Hcb]; · iexact Hcb
    isplitl [HO]; · iexact HO
    isplitr; · iexact Hlev
    iexact Hab
  iintro ⟨Hx, Hkeep, HkeepS, HzB, Hc0, Hns, HO⟩
  rw [wp_bind]
  iapply (part3 m c K) $$ [Hx Hns HO]
  · isplitr; · iexact HK
    isplitl [Hx]; · iexact Hx
    isplitl [Hns]; · iexact Hns
    iexact HO
  iintro ⟨Hx, ⟨Hc1, Hc2, Hc3, Hc4, Hc5⟩, HO⟩
  dsimp only
  rw [wp_bind]
  ihave Hrcv := (Entails.of_eq ((show iprop((bigSep Finset.univ fun s => opt (has (op s) c) (cred (tallyAt (rcvCell s c) () N))) ∗ (bigSep Finset.univ fun s => atPos ER (rcvCell s c) 0 ∅ 0)
      ∗ bigSep Finset.univ fun s => opt (¬ has (op s) c) (hpts s c hz)) = bigSep Finset.univ fun s => (rcvP c s : sProp 𝕄) from by
      rw [← bigSep_sep', ← bigSep_sep']; rfl).trans (six_sep (rcvP c)))) $$ [Hcr Har Hkeep]
  · isplitl [Hcr]; · iexact Hcr
    isplitl [Har]; · iexact Har
    iexact Hkeep
  iapply (part4 m c K) $$ [Ho Hrcv HO]
  · isplitr; · iexact HK
    isplitl [Ho]; · iexact Ho
    isplitl [Hrcv]; · iexact Hrcv
    iexact HO
  iintro ⟨Ho, Hh, HzR, HO⟩
  dsimp only
  rw [wp_bind]
  iapply (part5 m c _) $$ [Ho Hh]
  · isplitl [Ho]; · iexact Ho
    iexact Hh
  iintro ⟨Ho, Hh⟩
  rw [wp_bind]
  iapply (part6 m c) $$ [Ho Hh]
  · isplitl [Ho]; · iexact Ho
    iexact Hh
  iintro ⟨Ho, Hh⟩
  dsimp only
  simp -zeta -zetaHave only [semSignalWord, semWaitWord, Prog.lift, Prog.bind_op, Prog.bind_ret, Prog.pure_eq_ret, WP]
  iapply (wp_clear c (wz0 c) (r := rZ0) _ (k0_pay1 k0_pay20)) $$ Ho; iintro Ho
  iapply (wp_clear c (wz3 c) (r := rZ1) _ (k0_pay2 k0_pay20)) $$ Ho; iintro Ho
  ihave Has := (Entails.of_eq (six_sep fun s => atPos ER (sndCell s c) 0 ∅ 0)) $$ Has
  icases Has with ⟨Ha0, Ha1, Ha2, Ha3, Ha4, Ha5⟩
  ihave HkeepS := (Entails.of_eq (six_sep fun s => opt (¬ has s c) iprop(∃ f, spts s c f))) $$ HkeepS
  icases HkeepS with ⟨Hk0, Hk1, Hk2, Hk3, Hk4, Hk5⟩
  iapply (wp_sent_if m c K 0 (wx0 c)) $$ [Hc0 HO Ha0 Hk0]
  · isplitr; · iexact HK
    isplitl [Hc0]; · iexact Hc0
    isplitl [HO]; · iexact HO
    isplitl [Ha0]; · iexact Ha0
    iexact Hk0
  iintro ⟨Hs0, Hz0, HO⟩
  iapply (wp_sent_if m c K 1 (wx1 c)) $$ [Hc1 HO Ha1 Hk1]
  · isplitr; · iexact HK
    isplitl [Hc1]; · iexact Hc1
    isplitl [HO]; · iexact HO
    isplitl [Ha1]; · iexact Ha1
    iexact Hk1
  iintro ⟨Hs1, Hz1, HO⟩
  iapply (wp_sent_if m c K 2 (wy0 c)) $$ [Hc2 HO Ha2 Hk2]
  · isplitr; · iexact HK
    isplitl [Hc2]; · iexact Hc2
    isplitl [HO]; · iexact HO
    isplitl [Ha2]; · iexact Ha2
    iexact Hk2
  iintro ⟨Hs2, Hz2, HO⟩
  iapply (wp_sent_if m c K 3 (wy1 c)) $$ [Hc3 HO Ha3 Hk3]
  · isplitr; · iexact HK
    isplitl [Hc3]; · iexact Hc3
    isplitl [HO]; · iexact HO
    isplitl [Ha3]; · iexact Ha3
    iexact Hk3
  iintro ⟨Hs3, Hz3, HO⟩
  iapply (wp_sent_if m c K 4 (wzlt c)) $$ [Hc4 HO Ha4 Hk4]
  · isplitr; · iexact HK
    isplitl [Hc4]; · iexact Hc4
    isplitl [HO]; · iexact HO
    isplitl [Ha4]; · iexact Ha4
    iexact Hk4
  iintro ⟨Hs4, Hz4, HO⟩
  iapply (wp_sent_if m c K 5 (wzgt c)) $$ [Hc5 HO Ha5 Hk5]
  · isplitr; · iexact HK
    isplitl [Hc5]; · iexact Hc5
    isplitl [HO]; · iexact HO
    isplitl [Ha5]; · iexact Ha5
    iexact Hk5
  iintro ⟨Hs5, Hz5, HO⟩
  unfold WP
  rw [wp_ret]; imodintro
  iapply Hk
  isplitl [Hx]; · iexact Hx
  isplitl [Ho]; · iexact Ho
  isplitl [Hh]; · iexact Hh
  isplitl [Hs0 Hs1 Hs2 Hs3 Hs4 Hs5]
  · iapply (Entails.of_eq (six_sep fun s => iprop(∃ f, spts s c f)).symm)
    isplitl [Hs0]; · iexact Hs0
    isplitl [Hs1]; · iexact Hs1
    isplitl [Hs2]; · iexact Hs2
    isplitl [Hs3]; · iexact Hs3
    isplitl [Hs4]; · iexact Hs4
    iexact Hs5
  isplitl [HO]; · iexact HO
  isplitl [HzB]; · iexact HzB
  isplitl [Hz0 Hz1 Hz2 Hz3 Hz4 Hz5]
  · iapply (Entails.of_eq (six_sep fun s => semVal (sndCell s c) 0).symm)
    isplitl [Hz0]; · iexact Hz0
    isplitl [Hz1]; · iexact Hz1
    isplitl [Hz2]; · iexact Hz2
    isplitl [Hz3]; · iexact Hz3
    isplitl [Hz4]; · iexact Hz4
    iexact Hz5
  iapply (Entails.of_eq (six_sep fun s => semVal (rcvCell s c) 0).symm)
  iexact HzR

end Cert.Halo

end
-- ==== Proof.Launch.lean ====
/-
The launch: the rights minted and dealt to the devices that use them, the credits each starts from, and the run of the
whole program on the mesh, over any float values.
-/
module

public import proofs.«01_k».proof.Proof.Body
public import Idealize.ShloMosaic.Lib.Pipeline.BigSepL
public import Idealize.ShloMosaic.Lib.Pipeline.CollectiveSegs

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The rights device `c` pays with and its positions at its own cells. -/
def linear (c : Dev nD) : sProp 𝕄 :=
  iprop((bigSep Finset.univ fun t => dutyTok ER (barCell (peer t c)) 0 (op t))
    ∗ (bigSep Finset.univ fun s => dutyTok ER (sndCell s c) 0 s) ∗ (bigSep Finset.univ fun s => dutyTok ER (rcvCell s (peer s c)) 0 s)
    ∗ atPos ER (barCell c) 0 ∅ 0
    ∗ (bigSep Finset.univ fun s => atPos ER (sndCell s c) 0 ∅ 0) ∗ (bigSep Finset.univ fun s => atPos ER (rcvCell s c) 0 ∅ 0))

/-- The credits device `c` starts from: a unit of its barrier cell per neighbour, a plane of each receive cell that gets one. -/
def credit (c : Dev nD) : sProp 𝕄 :=
  iprop(cred (tallyAt (barCell c) () (cnt c)) ∗ (bigSep Finset.univ fun s => opt (has (op s) c) (cred (tallyAt (rcvCell s c) () N))))

/-- What the launch's global step leaves device `c`. -/
def G' (c : Dev nD) : sProp 𝕄 := iprop(∃ K, records m K ∗ linear c)

/-- What device `c`'s body starts from, apart from its buffers. -/
def start (c : Dev nD) : sProp 𝕄 := iprop(G' m c ∗ credit c ∗ levAts L lv)

/-- The two scratch buffers at some contents. -/
def scr (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

def Φ₀ (c : Dev nD) : sProp 𝕄 := iprop(start m c ∗ scr c)
def Φ₁ (c : Dev nD) : sProp 𝕄 :=
  iprop(scr c ∗ semVal (barCell c) 0 ∗ (bigSep Finset.univ fun s => semVal (sndCell s c) 0) ∗ (bigSep Finset.univ fun s => semVal (rcvCell s c) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => outv (xs m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A send buffer at some contents is its slots, each at some contents, and the other way round. -/
theorem scr_split (c : Dev nD) : (iprop(∃ f : Buf (Elt F) ((c : Thread nD τ).loc cc0_scratch0), ((c : Thread nD τ).loc cc0_scratch0) ↦{fullShare} f) : sProp 𝕄)
    ⊢ bigSep Finset.univ fun s => iprop(∃ f, spts s c f) := by
  iintro ⟨%f, H⟩
  ihave H := (Entails.of_eq (spts_all c f)) $$ H
  iapply (show (bigSep Finset.univ fun s => spts s c f : sProp 𝕄) ⊢ bigSep Finset.univ fun s => iprop(∃ f, spts s c f) from
    bigSep_mono fun s _ => Laws.exists_intro (Φ := fun f => (spts s c f : sProp 𝕄)) f)
  iexact H
theorem scr_join [∀ e, Nonempty (Elt F e)] (c : Dev nD) : (bigSep Finset.univ fun s => iprop(∃ f, spts s c f) : sProp 𝕄)
    ⊢ iprop(∃ f : Buf (Elt F) ((c : Thread nD τ).loc cc0_scratch0), ((c : Thread nD τ).loc cc0_scratch0) ↦{fullShare} f) := by
  iintro H
  ihave H := (BI.bigSep_exists_pi Finset.univ (fun (s : Fin 6) (f : Vec F S6x64x64 .f32) => (spts s c f : sProp 𝕄))) $$ H
  icases H with ⟨%g, H⟩
  iexists (fun i => g (i 0) i : Vec F S6x64x64 .f32)
  iapply (Entails.of_eq (spts_all c (fun i => g (i 0) i : Vec F S6x64x64 .f32)).symm)
  iapply (show (bigSep Finset.univ fun s => spts s c (g s) : sProp 𝕄) ⊢ bigSep Finset.univ fun s => spts s c (fun i => g (i 0) i : Vec F S6x64x64 .f32) from
    bigSep_mono fun s _ => Entails.of_eq (spts_congr s c _ _ fun i hi => by rw [(mem_slot s i).mp hi]))
  iexact H

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xs m c) ∗ stg c cc0_stg1_0 (outv (xs m) c))

set_option maxRecDepth 4000 in
/-- The body from the pipeline's point of view. -/
theorem sound_body (c : Dev nD) : bodyPre m ρ c ⊢ wp frame (wpE (defs₀ (F := F)) 𝒱₀ c none) Set.univ
    (cc0_body xM (Memref.isWhole_whole _) oM (Memref.isWhole_whole _) sM (Memref.isWhole_whole _) hM (Memref.isWhole_whole _) cc0_scratch2 cc0_scratch3) (fun _ => bodyPost m ρ c) := by
  unfold bodyPre Φ₀ start G' linear credit scr
  iintro ⟨⟨⟨⟨%K, #HK, Htb, Hts, Htr, Hab, Has, Har⟩, ⟨Hcb, Hcr⟩, #Hlev⟩, Hs, Hh⟩, HO, ⟨%d0, %g0, %hg0, Hx⟩, ⟨%d1, %g1, %hg1, Ho⟩⟩
  have hx : g0 = xs m c := by rw [hg0]; unfold Dat.before; rw [if_pos (fetch_0 t₀)]; rfl
  subst hx
  unfold Dat.owesAt Pipeline.owesWithin
  icases HO with ⟨%W, %hW, HO⟩
  rw [show (dats m ρ 0 c).owed t₀.castSucc = O₀ c from rfl]
  ihave Hs := (scr_split c) $$ Hs
  iapply (body m c K) $$ [Hs Hh Htb Hts Htr Hab Has Har Hcb Hcr HO Hx Ho]
  · isplitr; · iexact HK
    isplitl [Hx]; · unfold xpts; iexact Hx
    isplitl [Ho]; · unfold opts; iexists g1; iexact Ho
    isplitl [Hh]; · unfold hwh; iexact Hh
    isplitl [Hs]; · iexact Hs
    isplitl [Htb]; · iexact Htb
    isplitl [Hts]; · iexact Hts
    isplitl [Htr]; · iexact Htr
    isplitl [Hcb]; · iexact Hcb
    isplitl [Hcr]; · iexact Hcr
    isplitl [HO]; · unfold ow; iexists W; iexact HO
    isplitr; · iexact Hlev
    isplitl [Hab]; · iexact Hab
    isplitl [Has]; · iexact Has
    iexact Har
  unfold xpts opts hwh ow
  iintro ⟨Hx, Ho, Hh, Hs, ⟨%W', HO⟩, HzB, HzS, HzR⟩
  unfold bodyPost Φ₁ Dat.owesAt Pipeline.owesWithin scr
  rw [show (dats m ρ 0 c).owed t₀.succ = 0 from rfl]
  isplitl [Hh Hs HzB HzS HzR]
  · isplitl [Hh Hs]
    · isplitl [Hs]; · iapply (scr_join c); iexact Hs
      iexists _; iexact Hh
    isplitl [HzB]; · iexact HzB
    isplitl [HzS]; · iexact HzS
    iexact HzR
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact sound_body m ρ c

/-! ## The launch -/

/-- The kernel's own semaphores: the send cells, then the receive cells. -/
abbrev osem : Fin 12 → SemLoc sig := fun i => if h : i.val < 6 then .dma (sndS ⟨i.val, h⟩) else .dma (rcvS ⟨i.val - 6, by omega⟩)

theorem ownSemFacts : Pipeline.OwnSemFacts cfg0.spec osem := by decide

theorem share_eq (c : Dev nD) (w : Fin cfg0.W) : (dats m ρ 0 c).share w = fullShare := by unfold Dat.share; split <;> rfl

def kcell (ck : Dev nD × Ck) : GSem nD τ sig := cell ck.1 ck.2
theorem kcell_injective : Function.Injective kcell := by
  rintro ⟨c, k⟩ ⟨c', k'⟩ h
  obtain ⟨rfl, rfl⟩ := cell_inj h; rfl
def ringCells : Finset (GSem nD τ sig) := Finset.univ.map ⟨kcell, kcell_injective⟩

/-- The cell that message `s` credits in each of three ways: as a signal, as a plane sent, as a plane received. -/
def kk (j : Fin 3) (s : Fin 6) : Ck := match j with | 0 => none | 1 => some (false, s) | 2 => some (true, s)
def tokOf (x : Dev nD × Fin 3 × Fin 6) : GSem nD τ sig × ℕ × Fin 6 := (cell x.1 (kk x.2.1 x.2.2), 0, x.2.2)
theorem tokOf_injective : Function.Injective tokOf := by
  rintro ⟨c, j, s⟩ ⟨c', j', s'⟩ h
  obtain ⟨rfl, hk⟩ := cell_inj (congrArg Prod.fst h)
  have hs : s = s' := congrArg (fun x : GSem nD τ sig × ℕ × Fin 6 => x.2.2) h
  subst hs
  have : j = j' := by
    fin_cases j <;> fin_cases j' <;> first | rfl | exact absurd hk (by simp [kk])
  subst this; rfl
def ringToks : Finset (GSem nD τ sig × ℕ × Fin 6) := Finset.univ.map ⟨tokOf, tokOf_injective⟩

def u₀ : UU := (initOf (Pipeline.cells cfgs cellOf_inj) (Pipeline.launchToks cfgs cellOf_inj), initOf ringCells ringToks)

/-- The rights minted at device `c`'s own cells. -/
def toks (c : Dev nD) : sProp 𝕄 :=
  iprop((bigSep Finset.univ fun s => dutyTok ER (barCell c) 0 s) ∗ (bigSep Finset.univ fun s => dutyTok ER (sndCell s c) 0 s)
    ∗ bigSep Finset.univ fun s => dutyTok ER (rcvCell s c) 0 s)

/-- What the launch deals device `c`. -/
def G (c : Dev nD) : sProp 𝕄 :=
  iprop((bigSep Finset.univ fun k : Ck => roundState ER (Rd m) (cell c k) 0)
    ∗ (bigSep Finset.univ fun k : Ck => iprop(atPos ER (cell c k) 0 ∅ 0 ∗ reached ER (cell c k) 0)) ∗ toks c)

omit [FloatOps F] in
theorem sep_regroup (P Q R : sProp 𝕄) : iprop((P ∗ Q) ∗ R) = iprop(P ∗ Q ∗ R) := by
  have h1 : iprop((P ∗ Q) ∗ R) ⊢ iprop(P ∗ Q ∗ R) := by
    iintro ⟨⟨H1, H2⟩, H3⟩
    isplitl [H1]; · iexact H1
    isplitl [H2]; · iexact H2
    iexact H3
  have h2 : iprop(P ∗ Q ∗ R) ⊢ iprop((P ∗ Q) ∗ R) := by
    iintro ⟨H1, H2, H3⟩
    isplitl [H1 H2]
    · isplitl [H1]; · iexact H1
      iexact H2
    iexact H3
  exact equiv_iff.mp ⟨h1, h2⟩
omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

/-- Over the thirteen cells of a device: the barrier's, the send cells', the receive cells'. -/
theorem ck_sep (Φ : Ck → sProp 𝕄) :
    bigSep Finset.univ Φ = iprop(Φ none ∗ (bigSep Finset.univ fun s => Φ (some (false, s))) ∗ bigSep Finset.univ fun s => Φ (some (true, s))) := by
  rw [bigSep_univ_eq_bigSepL ([none] ++ ([0, 1, 2, 3, 4, 5] : List (Fin 6)).map (fun s => some (false, s)) ++ ([0, 1, 2, 3, 4, 5] : List (Fin 6)).map (fun s => some (true, s)))
      (by decide) (by decide), bigSepL_append, bigSepL_append, bigSepL_map, bigSepL_map, six_sep, six_sep, sep_regroup]
  simp only [bigSepL_cons, bigSepL_nil, sep_emp_eq]; rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Ck => Φ (cell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_prod, bigSep_fin3]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores are the send and receive cells; -/
theorem ownSems0_eq (c : Dev nD) : (Pipeline.ownSems0 (Ix := Unit) (Name := ℕ) (U := UU) (Lvl := ℕ) (Val := Elt F) (τ := τ) osem c : sProp 𝕄)
    = iprop((bigSep Finset.univ fun s => semVal (sndCell s c) 0) ∗ bigSep Finset.univ fun s => semVal (rcvCell s c) 0) := by
  rw [Pipeline.ownSems0_eq_of_list c osem ([0, 1, 2, 3, 4, 5] ++ [6, 7, 8, 9, 10, 11]) (by decide) (by decide), bigSepL_append, six_sep, six_sep]
  simp only [bigSepL_cons, bigSepL_nil, show ∀ P : sProp 𝕄, BI.sep P BI.emp = P from sep_emp_eq]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Ck => semVal (cell c k) 0 : sProp 𝕄) := by
  rw [ownSems0_eq, unscopedSems0_eq]
  refine BIBase.Entails.trans ?_ (Entails.of_eq (ck_sep fun k => semVal (cell c k) 0).symm)
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (cell c k)))
          ∗ (bigSep Finset.univ fun k => iprop(atPos ER (cell c k) 0 ∅ 0 ∗ reached ER (cell c k) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Ck => semVal (cell c k) 0) ∗ bigSep Finset.univ fun k : Ck => roundState ER (Rd m) (cell c k) 0)
      ⊢ (|={Set.univ}=> bigSep Finset.univ fun k => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- Message by message the two ends of every signal change places; every plane goes to the other end. -/
def swapE : Dev nD × Fin 6 ≃ Dev nD × Fin 6 where
  toFun x := (peer x.2 x.1, op x.2)
  invFun x := (peer x.2 x.1, op x.2)
  left_inv x := by dsimp only; rw [peer_peer, op_op]
  right_inv x := by dsimp only; rw [peer_peer, op_op]
def moveE : Dev nD × Fin 6 ≃ Dev nD × Fin 6 where
  toFun x := (peer x.2 x.1, x.2)
  invFun x := (peer (op x.2) x.1, x.2)
  left_inv x := by dsimp only; rw [peer_peer]
  right_inv x := by dsimp only; rw [peer_peer']

omit [FloatOps F] in
/-- The rights dealt to the devices that use them. -/
theorem toks_around : (bigSep Finset.univ fun c : Dev nD => (toks c : sProp 𝕄)) ⊢ bigSep Finset.univ fun c : Dev nD =>
    iprop((bigSep Finset.univ fun t => dutyTok ER (barCell (peer t c)) 0 (op t))
      ∗ (bigSep Finset.univ fun s => dutyTok ER (sndCell s c) 0 s) ∗ bigSep Finset.univ fun s => dutyTok ER (rcvCell s (peer s c)) 0 s) := by
  unfold toks
  rw [bigSep_sep', bigSep_sep', bigSep_sep', bigSep_sep',
    ← bigSep_univ_prod (fun x : Dev nD × Fin 6 => (dutyTok ER (barCell x.1) 0 x.2 : sProp 𝕄)),
    ← bigSep_univ_prod (fun x : Dev nD × Fin 6 => (dutyTok ER (rcvCell x.2 x.1) 0 x.2 : sProp 𝕄)),
    bigSep_univ_equiv swapE (fun x : Dev nD × Fin 6 => (dutyTok ER (barCell x.1) 0 x.2 : sProp 𝕄)),
    bigSep_univ_equiv moveE (fun x : Dev nD × Fin 6 => (dutyTok ER (rcvCell x.2 x.1) 0 x.2 : sProp 𝕄)),
    bigSep_univ_prod, bigSep_univ_prod]
  exact Entails.refl _

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (cell c k)))
          ∗ (bigSep Finset.univ fun k => iprop(atPos ER (cell c k) 0 ∅ 0 ∗ reached ER (cell c k) 0)) ∗ toks c) : sProp 𝕄)
      ⊢ bigSep Finset.univ (G' m) := by
  rw [bigSep_sep', bigSep_sep', ← bigSep_univ_prod (fun ck : Dev nD × Ck => iprop(∃ κ : ℕ, cellInv ER (Rd m) κ (cell ck.1 ck.2))),
    bigSep_congr (s := Finset.univ) (fun (c : Dev nD) _ => bigSep_sep' Finset.univ (fun k : Ck => (atPos ER (cell c k) 0 ∅ 0 : sProp 𝕄)) (fun k => reached ER (cell c k) 0)),
    bigSep_sep', ← bigSep_univ_prod (fun ck : Dev nD × Ck => (reached ER (cell ck.1 ck.2) 0 : sProp 𝕄))]
  iintro ⟨HI, ⟨Hat, #HR⟩, Htok⟩
  ihave HK := (BI.bigSep_exists_pi Finset.univ (fun (ck : Dev nD × Ck) (κ : ℕ) => (cellInv ER (Rd m) κ (cell ck.1 ck.2) : sProp 𝕄))) $$ HI
  icases HK with ⟨%K, #HI⟩
  ihave Htk := (toks_around (F := F)) $$ Htok
  have hG : ∀ c ∈ (Finset.univ : Finset (Dev nD)), iprop(records m K ∗ linear c) ⊢ G' m c := fun c _ => by
    unfold G'; iintro ⟨#HK, HL⟩; iexists K; isplitr
    · iexact HK
    · iexact HL
  iapply (bigSep_with_persistent (R := records m K) (Φ := fun c => (linear c : sProp 𝕄)) hG)
  isplitr
  · unfold records; isplitl; · iexact HI
    iexact HR
  · have hl : ∀ c ∈ (Finset.univ : Finset (Dev nD)), iprop(((bigSep Finset.univ fun t => dutyTok ER (barCell (peer t c)) 0 (op t))
        ∗ (bigSep Finset.univ fun s => dutyTok ER (sndCell s c) 0 s) ∗ bigSep Finset.univ fun s => dutyTok ER (rcvCell s (peer s c)) 0 s)
        ∗ bigSep Finset.univ fun k : Ck => atPos ER (cell c k) 0 ∅ 0) ⊢ (linear c : sProp 𝕄) := fun c _ => by
      unfold linear; rw [ck_sep]
      iintro ⟨⟨H1, H2, H3⟩, H4⟩
      isplitl [H1]; · iexact H1
      isplitl [H2]; · iexact H2
      isplitl [H3]; · iexact H3
      iexact H4
    iapply ((Entails.of_eq (bigSep_sep' Finset.univ _ (fun c : Dev nD => bigSep Finset.univ fun k : Ck => (atPos ER (cell c k) 0 ∅ 0 : sProp 𝕄))).symm).trans
      (bigSep_mono hl))
    isplitl [Htk]; · iexact Htk
    iexact Hat

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem at_cell (a b : Dev nD) (k j : Ck) (n : ℕ) :
    (tallyAt (cell a k) () n : CellTallies nD τ sig Unit) (cell b j) () = if a = b ∧ k = j then n else 0 := by
  rw [tallyAt_apply]
  by_cases h : a = b ∧ k = j
  · obtain ⟨rfl, rfl⟩ := h; rw [if_pos ⟨rfl, rfl⟩, if_pos ⟨rfl, rfl⟩]
  · rw [if_neg (fun h' => h (cell_inj h'.1.symm)), if_neg h]

/-- What device `d` owes a cell of device `c` for message `s`: a signal, a plane. -/
theorem osig_at (s : Fin 6) (d c : Dev nD) (k : Ck) : osig s d (cell c k) () = if has s d ∧ peer s d = c ∧ none = k then 1 else 0 := by
  unfold osig
  by_cases h : has s d
  · rw [if_pos h]; refine (at_cell (peer s d) c none k 1).trans ?_; simp only [h, true_and]
  · rw [if_neg h, if_neg (fun h' => h h'.1)]; rfl
theorem osend_at (s : Fin 6) (d c : Dev nD) (k : Ck) : osend s d (cell c k) () = if has s d ∧ peer s d = c ∧ some (true, s) = k then N else 0 := by
  unfold osend
  by_cases h : has s d
  · rw [if_pos h]; refine (at_cell (peer s d) c (some (true, s)) k N).trans ?_; simp only [h, true_and]
  · rw [if_neg h, if_neg (fun h' => h h'.1)]; rfl

theorem owe_six_at (d : Dev nD) (g : GSem nD τ sig) : owe d six g () = ∑ s : Fin 6, osend s d g () := by
  rw [Fin.sum_univ_six]
  simp only [six, owe, Pi.add_apply, Finsupp.add_apply, Pi.zero_apply, Finsupp.zero_apply]
  omega

theorem owed_bar (d c : Dev nD) : O₀ d (barCell c) () = (if has 4 d ∧ peer 4 d = c then 1 else 0) + (if has 5 d ∧ peer 5 d = c then 1 else 0)
    + (if peer (sy d) d = c then 1 else 0) + (if peer (sx d) d = c then 1 else 0) := by
  have hs : ∀ s, osig s d (barCell c) () = if has s d ∧ peer s d = c then 1 else 0 := fun s => by
    rw [show barCell c = cell c none from rfl, osig_at]; simp
  have h0 : owe d six (barCell c) () = 0 := by
    rw [owe_six_at]; refine Finset.sum_eq_zero fun s _ => ?_
    rw [show barCell c = cell c none from rfl, osend_at]; simp
  unfold O₀
  simp only [Pi.add_apply, Finsupp.add_apply]
  rw [h0, hs, hs, hs, hs, Nat.zero_add]
  simp only [has_sx, has_sy, true_and]

theorem owed_rcv (s : Fin 6) (d c : Dev nD) : O₀ d (rcvCell s c) () = if d = peer (op s) c then (if has (op s) c then N else 0) else 0 := by
  have hs : ∀ t, osig t d (rcvCell s c) () = 0 := fun t => by
    rw [show rcvCell s c = cell c (some (true, s)) from rfl, osig_at]; simp
  have h0 : owe d six (rcvCell s c) () = osend s d (rcvCell s c) () := by
    rw [owe_six_at]; refine Finset.sum_eq_single s (fun t _ ht => ?_) (fun h => absurd (Finset.mem_univ _) h)
    rw [show rcvCell s c = cell c (some (true, s)) from rfl, osend_at]; simp [ht]
  unfold O₀
  simp only [Pi.add_apply, Finsupp.add_apply]
  rw [h0, hs, hs, hs, hs, show rcvCell s c = cell c (some (true, s)) from rfl, osend_at]
  by_cases h : d = peer (op s) c
  · subst h; simp only [peer_peer', has_peer', true_and, and_true, if_true, Nat.add_zero]
  · rw [if_neg h, if_neg (fun h' => h (by rw [← h'.2.1, peer_peer]))]

theorem owed_bar_sum (c : Dev nD) : (∑ d : Dev nD, ((if has 4 d ∧ peer 4 d = c then 1 else 0) + (if has 5 d ∧ peer 5 d = c then 1 else 0)
    + (if peer (sy d) d = c then 1 else 0) + (if peer (sx d) d = c then 1 else 0))) = cnt c := by
  revert c; decide

theorem launch_bar (c : Dev nD) :
    tallyOn (barCell c) (launchCredit (Pipeline.owing O₀) 0 (barCell c)) = (tallyAt (barCell c) () (cnt c) : CellTallies nD τ sig Unit) := by
  unfold tallyAt; refine congrArg _ (Finsupp.ext fun u => ?_); cases u
  rw [Pipeline.launchCredit_owing, Finsupp.single_eq_same, Finset.sum_congr rfl fun d _ => owed_bar d c, owed_bar_sum]

theorem launch_rcv (s : Fin 6) (c : Dev nD) (h : has (op s) c) :
    tallyOn (rcvCell s c) (launchCredit (Pipeline.owing O₀) 0 (rcvCell s c)) = (tallyAt (rcvCell s c) () N : CellTallies nD τ sig Unit) := by
  unfold tallyAt; refine congrArg _ (Finsupp.ext fun u => ?_); cases u
  rw [Pipeline.launchCredit_owing, Finsupp.single_eq_same, Finset.sum_congr rfl fun d _ => owed_rcv s d c,
    Finset.sum_ite_eq' Finset.univ (peer (op s) c) fun _ => _, if_pos (Finset.mem_univ _), if_pos h]

theorem sep_drop_mid {P R R' T : sProp 𝕄} (h : R ⊢ R') : iprop(P ∗ T ∗ R) ⊢ iprop(P ∗ R') := by
  iintro ⟨H0, -, H1⟩
  isplitl [H0]; · iexact H0
  iapply h; iexact H1
theorem creds (c : Dev nD) : (Pipeline.launchCred O₀ c : sProp 𝕄) ⊢ credit c := by
  unfold Pipeline.launchCred credit
  refine (bigSep_subset (Finset.subset_univ (Finset.univ.map ⟨csem, csem_injective⟩))).trans ?_
  rw [bigSep_map, ck_sep, ← launch_bar]
  have hr : (bigSep Finset.univ fun s => cred (tallyOn (rcvCell s c) (launchCredit (Pipeline.owing O₀) 0 (rcvCell s c))) : sProp 𝕄)
      ⊢ bigSep Finset.univ fun s => opt (has (op s) c) (cred (tallyAt (rcvCell s c) () N)) := bigSep_mono fun s _ => by
    by_cases h : has (op s) c
    · rw [opt_pos h, ← launch_rcv s c h]; exact Entails.refl _
    · rw [opt_neg h]; exact (show (_ : sProp 𝕄) ⊢ iprop(emp) by iintro -; iempintro)
  exact sep_drop_mid hr

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scr
  iintro ⟨Hr, HzB, HzS, HzV⟩
  isplitl [HzB]; · iexact HzB
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> exact fun _ => rfl) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the sixteen devices, for any float values and from any memory with zero counters: every weakly fair execution of
    the program ends, with each device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Halo

end
-- ==== Proof.Frames.lean ====
/-
The frames of the kernel's two programs, both from the one run: the program's text is the same at every kind of float value.
-/
module

public import proofs.«01_k».proof.Proof.Launch
public import proofs.«01_k».proof.Defs
public import proofs.«01_k».proof.Proof.Gen.Kernel
public import proofs.«01_k».proof.Proof.Gen.ReferenceIdeal.Run

@[expose] public section

noncomputable section

namespace Cert.Halo

open Idealize.ShloMosaic
open Idealize.ShloMosaic.TcCoe
open Idealize.SL.Sem

/-- Over any float values, the run leaves the argument as it was and every counter at zero. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0) :=
  (θ_run Cert.KernelIdeal.defs _ _).mono (fun _ h => ⟨fun c => (h.1 c (0 : Fin 2)).trans (finalA_x m ρ c), h.2⟩) (run_main m ρ)

/-- The two programs have one text, -/
theorem body_same {F : FTy → Type} [FloatOps F] : Cert.Kernel.cc0_body (F := F) = Cert.KernelIdeal.cc0_body (F := F) := rfl
/-- so they have one table of bodies, -/
theorem table_same {F : FTy → Type} [FloatOps F] : Cert.Kernel.defs₀ (F := F) = Cert.KernelIdeal.defs₀ (F := F) := by
  unfold Cert.Kernel.defs₀ Cert.KernelIdeal.defs₀
  refine congrArg Defs.onTc (funext fun l => ?_)
  match l with
  | 0 => funext ⟨t, s⟩; simp only [body_same]
/-- of kernels and of regions. -/
theorem defs_same {F : FTy → Type} [FloatOps F] : Cert.Kernel.defs (F := F) = Cert.KernelIdeal.defs (F := F) :=
  congrArg (Pipeline.defs (Cert.KernelIdeal.pcfgs (F := F))) table_same

/-- The kernel as it stands runs on the sixteen devices to the end, leaves its argument as it was and every counter at zero. -/
theorem frame_Kernel : Cert.quiescent_Kernel := fun m ρ _ => by
  have h := frame_any (F := Bits) m ρ
  rw [← defs_same] at h
  exact h

/-- Its reading at exact values does the same. -/
theorem frame_KernelIdeal : Cert.quiescent_KernelIdeal := fun m ρ _ => frame_any (F := Ideal) m ρ

/-- The reference runs to the end on its one device and leaves its argument as it was; it has no counters. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

end Cert.Halo

end
-- ==== Proof.Faces.lean ====
/-
A face of a block of 64 by 64 by 64 read and stored, element by element, and the block read one step aside along an axis.
-/
module

public import proofs.«01_k».proof.Proof.Out
public import Idealize.ShloMosaic.Lib.Pipeline.Value
public import Idealize.ShloMosaic.Lib.ValueIdx
public import Idealize.ShloMosaic.Lib.IdealHost

@[expose] public section

noncomputable section

namespace Cert.Halo

open Cert.KernelIdeal Cert.KernelIdeal.Gen

open Idealize.ShloMosaic
open Idealize.ShloMosaic.TcCoe
open Idealize.ShloMosaic.ValueIdx

variable {F : FTy → Type} [FloatOps F]

/-! ## Storing through a rectangle -/

/-- Inside the rectangle the stored value; -/
theorem st_emb (r : Rect S64x64x64) (f : Vec F S64x64x64 .f32) (w : FVec F r.shape .f32) (e : r.shape.Idx) : st r f w (r.emb e) = w e :=
  (View.write_emb_of_mem (v := (oM : Memref sig .tc .vmem S64x64x64 .f32).access r) (Val := Elt F) f w
    (M := Finset.univ) (x := e) (Finset.mem_univ _)).trans (cast_eq _ _)
/-- outside it what was there. -/
theorem st_off (r : Rect S64x64x64) (f : Vec F S64x64x64 .f32) (w : FVec F r.shape .f32) (i : S64x64x64.Idx) (h : i ∉ r.set) : st r f w i = f i :=
  View.write_of_not_mem (v := (oM : Memref sig .tc .vmem S64x64x64 .f32).access r) (Val := Elt F) f w Finset.univ
    (by
      rw [View.setOn_univ]
      intro h'
      rw [show ((oM : Memref sig .tc .vmem S64x64x64 .f32).access r).set = r.set from View.set_slice_whole cc0_stg1_0 r] at h'
      exact h h')

/-- The faces across the first, the second, the third axis, at place `p`. -/
abbrev rX (p : Fin 64) (h : ∀ a, (![(p : ℕ), 0, 0] : Fin 3 → ℕ) a + S1x64x64.size a ≤ S64x64x64.size a) : Rect S64x64x64 := Rect.unit (s := S64x64x64) ![(p : ℕ), 0, 0] S1x64x64.size h
abbrev rY (p : Fin 64) (h : ∀ a, (![0, (p : ℕ), 0] : Fin 3 → ℕ) a + S64x1x64.size a ≤ S64x64x64.size a) : Rect S64x64x64 := Rect.unit (s := S64x64x64) ![0, (p : ℕ), 0] S64x1x64.size h
abbrev rZ (p : Fin 64) (h : ∀ a, (![0, 0, (p : ℕ)] : Fin 3 → ℕ) a + S64x64x1.size a ≤ S64x64x64.size a) : Rect S64x64x64 := Rect.unit (s := S64x64x64) ![0, 0, (p : ℕ)] S64x64x1.size h

theorem rX_emb (p h) (b d : Fin 64) : (rX p h).emb (ix3 (0 : Fin 1) b d) = (ix3 p b d : S64x64x64.Idx) := by
  funext a; apply Fin.ext
  match a with
  | ⟨0, _⟩ => show p.val + 1 * 0 = p.val; omega
  | ⟨1, _⟩ => show 0 + 1 * b.val = b.val; omega
  | ⟨2, _⟩ => show 0 + 1 * d.val = d.val; omega
theorem rY_emb (p h) (a d : Fin 64) : (rY p h).emb (ix3 a (0 : Fin 1) d) = (ix3 a p d : S64x64x64.Idx) := by
  funext k; apply Fin.ext
  match k with
  | ⟨0, _⟩ => show 0 + 1 * a.val = a.val; omega
  | ⟨1, _⟩ => show p.val + 1 * 0 = p.val; omega
  | ⟨2, _⟩ => show 0 + 1 * d.val = d.val; omega
theorem rZ_emb (p h) (a b : Fin 64) : (rZ p h).emb (ix3 a b (0 : Fin 1)) = (ix3 a b p : S64x64x64.Idx) := by
  funext k; apply Fin.ext
  match k with
  | ⟨0, _⟩ => show 0 + 1 * a.val = a.val; omega
  | ⟨1, _⟩ => show 0 + 1 * b.val = b.val; omega
  | ⟨2, _⟩ => show p.val + 1 * 0 = p.val; omega

theorem stX (p h) (f : Vec F S64x64x64 .f32) (w : FVec F S1x64x64 .f32) (a b d : Fin 64) :
    st (rX p h) f w (ix3 a b d) = if a = p then w (ix3 (0 : Fin 1) b d) else f (ix3 a b d) := by
  by_cases e : a = p
  · subst e; rw [if_pos rfl, ← rX_emb a h b d]; exact st_emb (rX a h) f w (ix3 (0 : Fin 1) b d)
  · rw [if_neg e]
    refine st_off (rX p h) f w (ix3 a b d) fun hm => e (Fin.ext ?_)
    have hp : p.val ≤ a.val ∧ a.val < p.val + 1 := Rect.mem_set_unit.mp hm 0
    omega
theorem stY (p h) (f : Vec F S64x64x64 .f32) (w : FVec F S64x1x64 .f32) (a b d : Fin 64) :
    st (rY p h) f w (ix3 a b d) = if b = p then w (ix3 a (0 : Fin 1) d) else f (ix3 a b d) := by
  by_cases e : b = p
  · subst e; rw [if_pos rfl, ← rY_emb b h a d]; exact st_emb (rY b h) f w (ix3 a (0 : Fin 1) d)
  · rw [if_neg e]
    refine st_off (rY p h) f w (ix3 a b d) fun hm => e (Fin.ext ?_)
    have hp : p.val ≤ b.val ∧ b.val < p.val + 1 := Rect.mem_set_unit.mp hm 1
    omega
theorem stZ (p h) (f : Vec F S64x64x64 .f32) (w : FVec F S64x64x1 .f32) (a b d : Fin 64) :
    st (rZ p h) f w (ix3 a b d) = if d = p then w (ix3 a b (0 : Fin 1)) else f (ix3 a b d) := by
  by_cases e : d = p
  · subst e; rw [if_pos rfl, ← rZ_emb d h a b]; exact st_emb (rZ d h) f w (ix3 a b (0 : Fin 1))
  · rw [if_neg e]
    refine st_off (rZ p h) f w (ix3 a b d) fun hm => e (Fin.ext ?_)
    have hp : p.val ≤ d.val ∧ d.val < p.val + 1 := Rect.mem_set_unit.mp hm 2
    omega

theorem ldX (p h) (f : Vec F S64x64x64 .f32) (b d : Fin 64) : ld (rX p h) f (ix3 (0 : Fin 1) b d) = f (ix3 p b d) := congrArg f (rX_emb p h b d)
theorem ldY (p h) (f : Vec F S64x64x64 .f32) (a d : Fin 64) : ld (rY p h) f (ix3 a (0 : Fin 1) d) = f (ix3 a p d) := congrArg f (rY_emb p h a d)
theorem ldZ (p h) (f : Vec F S64x64x64 .f32) (a b : Fin 64) : ld (rZ p h) f (ix3 a b (0 : Fin 1)) = f (ix3 a b p) := congrArg f (rZ_emb p h a b)

/-! ## A plane with its axis of one element dropped or put back -/

section Cast
variable {α : Type}
theorem drop0 (v : S1x64x64.Idx → α) (h : S1x64x64.ShapeCasts S64x64) (p q : Fin 64) : shapeCast S64x64 v h (ix2 p q) = v (ix3 (0 : Fin 1) p q) :=
  shapeCast_apply v h _ _ (by rw [Shape.rowMajor_val_three, Shape.rowMajor_val_two]; simp)
theorem drop1 (v : S64x1x64.Idx → α) (h : S64x1x64.ShapeCasts S64x64) (p q : Fin 64) : shapeCast S64x64 v h (ix2 p q) = v (ix3 p (0 : Fin 1) q) :=
  shapeCast_apply v h _ _ (by rw [Shape.rowMajor_val_three, Shape.rowMajor_val_two]; simp)
theorem drop2 (v : S64x64x1.Idx → α) (h : S64x64x1.ShapeCasts S64x64) (p q : Fin 64) : shapeCast S64x64 v h (ix2 p q) = v (ix3 p q (0 : Fin 1)) :=
  shapeCast_apply v h _ _ (by rw [Shape.rowMajor_val_three, Shape.rowMajor_val_two]; simp)
theorem put0 (v : S64x64.Idx → α) (h : S64x64.ShapeCasts S1x64x64) (p q : Fin 64) : shapeCast S1x64x64 v h (ix3 (0 : Fin 1) p q) = v (ix2 p q) :=
  shapeCast_apply v h _ _ (by rw [Shape.rowMajor_val_three, Shape.rowMajor_val_two]; simp)
theorem put1 (v : S64x64.Idx → α) (h : S64x64.ShapeCasts S64x1x64) (p q : Fin 64) : shapeCast S64x1x64 v h (ix3 p (0 : Fin 1) q) = v (ix2 p q) :=
  shapeCast_apply v h _ _ (by rw [Shape.rowMajor_val_three, Shape.rowMajor_val_two]; simp)
theorem put2 (v : S64x64.Idx → α) (h : S64x64.ShapeCasts S64x64x1) (p q : Fin 64) : shapeCast S64x64x1 v h (ix3 p q (0 : Fin 1)) = v (ix2 p q) :=
  shapeCast_apply v h _ _ (by rw [Shape.rowMajor_val_three, Shape.rowMajor_val_two]; simp)
end Cast

/-! ## The planes packed -/

theorem pk0 (x : Vec F S64x64x64 .f32) (p q : Fin 64) : pk x 0 (ix3 (0 : Fin 1) p q) = x (ix3 (63 : Fin 64) p q) := by
  show shapeCast S1x64x64 (shapeCast S64x64 (ld (rX1) x) _) _ (ix3 (0 : Fin 1) p q) = _
  rw [put0, drop0]
  exact ldX 63 _ x p q
theorem pk1 (x : Vec F S64x64x64 .f32) (p q : Fin 64) : pk x 1 (ix3 (0 : Fin 1) p q) = x (ix3 (0 : Fin 64) p q) := by
  show shapeCast S1x64x64 (shapeCast S64x64 (ld (rX0) x) _) _ (ix3 (0 : Fin 1) p q) = _
  rw [put0, drop0]
  exact ldX 0 _ x p q
theorem pk2 (x : Vec F S64x64x64 .f32) (p q : Fin 64) : pk x 2 (ix3 (0 : Fin 1) p q) = x (ix3 p (63 : Fin 64) q) := by
  show shapeCast S1x64x64 (shapeCast S64x64 (ld (rY1) x) _) _ (ix3 (0 : Fin 1) p q) = _
  rw [put0, drop1]
  exact ldY 63 _ x p q
theorem pk3 (x : Vec F S64x64x64 .f32) (p q : Fin 64) : pk x 3 (ix3 (0 : Fin 1) p q) = x (ix3 p (0 : Fin 64) q) := by
  show shapeCast S1x64x64 (shapeCast S64x64 (ld (rY0) x) _) _ (ix3 (0 : Fin 1) p q) = _
  rw [put0, drop1]
  exact ldY 0 _ x p q
theorem pk4 (x : Vec F S64x64x64 .f32) (p q : Fin 64) : pk x 4 (ix3 (0 : Fin 1) p q) = x (ix3 p q (63 : Fin 64)) := by
  show shapeCast S1x64x64 (shapeCast S64x64 (ld (rZ1) x) _) _ (ix3 (0 : Fin 1) p q) = _
  rw [put0, drop2]
  exact ldZ 63 _ x p q
theorem pk5 (x : Vec F S64x64x64 .f32) (p q : Fin 64) : pk x 5 (ix3 (0 : Fin 1) p q) = x (ix3 p q (0 : Fin 64)) := by
  show shapeCast S1x64x64 (shapeCast S64x64 (ld (rZ0) x) _) _ (ix3 (0 : Fin 1) p q) = _
  rw [put0, drop2]
  exact ldZ 0 _ x p q

/-! ## A face with a plane added, at exact values -/

theorem addX (p h) (f : Vec Ideal S64x64x64 .f32) (w : FVec Ideal S1x64x64 .f32) (a b d : Fin 64) :
    st (rX p h) f (k0_pay15 (ld (rX p h) f) w) (ix3 a b d) = (f (ix3 a b d) + if a = p then w (ix3 (0 : Fin 1) b d) else 0 : EReal) := by
  rw [stX]
  by_cases e : a = p
  · subst e; rw [if_pos rfl, if_pos rfl]
    refine (put0 _ _ b d).trans ((addf_apply _ _ _).trans ?_)
    rw [drop0, drop0, ldX]
  · rw [if_neg e, if_neg e]; exact (add_zero (f (ix3 a b d) : EReal)).symm
theorem addY (p h) (f : Vec Ideal S64x64x64 .f32) (w : FVec Ideal S1x64x64 .f32) (a b d : Fin 64) :
    st (rY p h) f (k0_pay16 (ld (rY p h) f) w) (ix3 a b d) = (f (ix3 a b d) + if b = p then w (ix3 (0 : Fin 1) a d) else 0 : EReal) := by
  rw [stY]
  by_cases e : b = p
  · subst e; rw [if_pos rfl, if_pos rfl]
    refine (put1 _ _ a d).trans ((addf_apply _ _ _).trans ?_)
    rw [drop1, drop0, ldY]
  · rw [if_neg e, if_neg e]; exact (add_zero (f (ix3 a b d) : EReal)).symm
theorem addZ (p h) (f : Vec Ideal S64x64x64 .f32) (w : FVec Ideal S1x64x64 .f32) (a b d : Fin 64) :
    st (rZ p h) f (k0_pay18 (ld (rZ p h) f) w) (ix3 a b d) = (f (ix3 a b d) + if d = p then w (ix3 (0 : Fin 1) a b) else 0 : EReal) := by
  rw [stZ]
  by_cases e : d = p
  · subst e; rw [if_pos rfl, if_pos rfl]
    refine (put2 _ _ a b).trans ((addf_apply _ _ _).trans ?_)
    rw [drop2, drop0, ldZ]
  · rw [if_neg e, if_neg e]; exact (add_zero (f (ix3 a b d) : EReal)).symm

end Cert.Halo

end
-- ==== Proof.Reads.lean ====
/-
A block read at a place given by integers, zero outside it, and what one device's result holds at each place.
-/
module

public import proofs.«01_k».proof.Proof.Faces

@[expose] public section

noncomputable section

namespace Cert.Halo

open Cert.KernelIdeal Cert.KernelIdeal.Gen

open Idealize.ShloMosaic
open Idealize.ShloMosaic.TcCoe
open Idealize.ShloMosaic.ValueIdx

/-! ## Reading at integers -/

/-- The array's element at `(i, j, k)`, and zero where there is none. -/
def rd {n m l : ℕ} (w : (⟨3, ![n, m, l]⟩ : Shape).Idx → EReal) (i j k : ℤ) : EReal :=
  if h : (0 ≤ i ∧ i < n) ∧ (0 ≤ j ∧ j < m) ∧ (0 ≤ k ∧ k < l) then
    w (ix3 (⟨i.toNat, by omega⟩ : Fin n) (⟨j.toNat, by omega⟩ : Fin m) (⟨k.toNat, by omega⟩ : Fin l))
  else 0

/-- Inside it is the element; -/
theorem rd_at {n m l : ℕ} (w : (⟨3, ![n, m, l]⟩ : Shape).Idx → EReal) {i j k : ℤ} (a : Fin n) (b : Fin m) (d : Fin l)
    (hi : i = a.val) (hj : j = b.val) (hk : k = d.val) : rd w i j k = w (ix3 a b d) := by
  subst hi hj hk
  have ha := a.isLt; have hb := b.isLt; have hd := d.isLt
  unfold rd
  rw [dif_pos ⟨⟨by omega, by omega⟩, ⟨by omega, by omega⟩, ⟨by omega, by omega⟩⟩]
  rfl
/-- outside it is zero. -/
theorem rd_out {n m l : ℕ} (w : (⟨3, ![n, m, l]⟩ : Shape).Idx → EReal) {i j k : ℤ}
    (h : i < 0 ∨ (n : ℤ) ≤ i ∨ j < 0 ∨ (m : ℤ) ≤ j ∨ k < 0 ∨ (l : ℤ) ≤ k) : rd w i j k = 0 := by
  unfold rd
  rw [dif_neg (by omega)]

/-! ## The block moved one step along an axis, zeros moved in -/

section Move
variable (w : S64x64x64.Idx → EReal)

theorem lowX (z : S1x64x64.Idx → EReal) (hz : ∀ i, z i = 0) (hs : S64x64x64.Slices ![0, 0, 0] S63x64x64) (h : Shape.Concatenates [S1x64x64, S63x64x64] S64x64x64 0) (a b d : Fin 64) :
    concatenate S64x64x64 0 [⟨S1x64x64, z⟩, ⟨S63x64x64, extractStridedSlice S63x64x64 ![0, 0, 0] w hs⟩] h (ix3 a b d) = rd w (a.val - 1) b.val d.val := by
  by_cases e : a.val = 0
  · rw [rd_out w (by omega)]
    refine (concatenate_pair_apply_left 0 _ _ h (ix3 a b d) rfl (ix3 (0 : Fin 1) b d) ?_).trans (hz _)
    intro k; match k with
    | ⟨0, _⟩ => exact e.symm
    | ⟨1, _⟩ => rfl
    | ⟨2, _⟩ => rfl
  · have ha := a.isLt
    rw [rd_at w (⟨a.val - 1, by omega⟩ : Fin 64) b d (by simp; omega) rfl rfl]
    refine (concatenate_pair_apply_right 0 _ _ h (ix3 a b d) rfl rfl (ix3 (⟨a.val - 1, by omega⟩ : Fin 63) b d) ?_ ?_).trans (extractStridedSlice_apply _ _ _ _ _ ?_)
    · intro k hk; match k, hk with
      | ⟨0, _⟩, hk => exact absurd rfl hk
      | ⟨1, _⟩, _ => rfl
      | ⟨2, _⟩, _ => rfl
    · show a.val - 1 + 1 = a.val; omega
    · intro k; match k with
      | ⟨0, _⟩ => show a.val - 1 = 0 + (a.val - 1); omega
      | ⟨1, _⟩ => show b.val = 0 + b.val; omega
      | ⟨2, _⟩ => show d.val = 0 + d.val; omega
theorem highX (z : S1x64x64.Idx → EReal) (hz : ∀ i, z i = 0) (hs : S64x64x64.Slices ![1, 0, 0] S63x64x64) (h : Shape.Concatenates [S63x64x64, S1x64x64] S64x64x64 0) (a b d : Fin 64) :
    concatenate S64x64x64 0 [⟨S63x64x64, extractStridedSlice S63x64x64 ![1, 0, 0] w hs⟩, ⟨S1x64x64, z⟩] h (ix3 a b d) = rd w (a.val + 1) b.val d.val := by
  have ha := a.isLt
  by_cases e : a.val = 63
  · rw [rd_out w (by omega)]
    refine (concatenate_pair_apply_right 0 _ _ h (ix3 a b d) rfl rfl (ix3 (0 : Fin 1) b d) ?_ ?_).trans (hz _)
    · intro k hk; match k, hk with
      | ⟨0, _⟩, hk => exact absurd rfl hk
      | ⟨1, _⟩, _ => rfl
      | ⟨2, _⟩, _ => rfl
    · show 0 + 63 = a.val; omega
  · rw [rd_at w (⟨a.val + 1, by omega⟩ : Fin 64) b d (by simp) rfl rfl]
    refine (concatenate_pair_apply_left 0 _ _ h (ix3 a b d) rfl (ix3 (⟨a.val, by omega⟩ : Fin 63) b d) ?_).trans (extractStridedSlice_apply _ _ _ _ _ ?_)
    · intro k; match k with
      | ⟨0, _⟩ => rfl
      | ⟨1, _⟩ => rfl
      | ⟨2, _⟩ => rfl
    · intro k; match k with
      | ⟨0, _⟩ => show a.val + 1 = 1 + a.val; omega
      | ⟨1, _⟩ => show b.val = 0 + b.val; omega
      | ⟨2, _⟩ => show d.val = 0 + d.val; omega
theorem lowY (z : S64x1x64.Idx → EReal) (hz : ∀ i, z i = 0) (hs : S64x64x64.Slices ![0, 0, 0] S64x63x64) (h : Shape.Concatenates [S64x1x64, S64x63x64] S64x64x64 1) (a b d : Fin 64) :
    concatenate S64x64x64 1 [⟨S64x1x64, z⟩, ⟨S64x63x64, extractStridedSlice S64x63x64 ![0, 0, 0] w hs⟩] h (ix3 a b d) = rd w a.val (b.val - 1) d.val := by
  by_cases e : b.val = 0
  · rw [rd_out w (by omega)]
    refine (concatenate_pair_apply_left 1 _ _ h (ix3 a b d) rfl (ix3 a (0 : Fin 1) d) ?_).trans (hz _)
    intro k; match k with
    | ⟨0, _⟩ => rfl
    | ⟨1, _⟩ => exact e.symm
    | ⟨2, _⟩ => rfl
  · have hb := b.isLt
    rw [rd_at w a (⟨b.val - 1, by omega⟩ : Fin 64) d rfl (by simp; omega) rfl]
    refine (concatenate_pair_apply_right 1 _ _ h (ix3 a b d) rfl rfl (ix3 a (⟨b.val - 1, by omega⟩ : Fin 63) d) ?_ ?_).trans (extractStridedSlice_apply _ _ _ _ _ ?_)
    · intro k hk; match k, hk with
      | ⟨0, _⟩, _ => rfl
      | ⟨1, _⟩, hk => exact absurd rfl hk
      | ⟨2, _⟩, _ => rfl
    · show b.val - 1 + 1 = b.val; omega
    · intro k; match k with
      | ⟨0, _⟩ => show a.val = 0 + a.val; omega
      | ⟨1, _⟩ => show b.val - 1 = 0 + (b.val - 1); omega
      | ⟨2, _⟩ => show d.val = 0 + d.val; omega
theorem highY (z : S64x1x64.Idx → EReal) (hz : ∀ i, z i = 0) (hs : S64x64x64.Slices ![0, 1, 0] S64x63x64) (h : Shape.Concatenates [S64x63x64, S64x1x64] S64x64x64 1) (a b d : Fin 64) :
    concatenate S64x64x64 1 [⟨S64x63x64, extractStridedSlice S64x63x64 ![0, 1, 0] w hs⟩, ⟨S64x1x64, z⟩] h (ix3 a b d) = rd w a.val (b.val + 1) d.val := by
  have hb := b.isLt
  by_cases e : b.val = 63
  · rw [rd_out w (by omega)]
    refine (concatenate_pair_apply_right 1 _ _ h (ix3 a b d) rfl rfl (ix3 a (0 : Fin 1) d) ?_ ?_).trans (hz _)
    · intro k hk; match k, hk with
      | ⟨0, _⟩, _ => rfl
      | ⟨1, _⟩, hk => exact absurd rfl hk
      | ⟨2, _⟩, _ => rfl
    · show 0 + 63 = b.val; omega
  · rw [rd_at w a (⟨b.val + 1, by omega⟩ : Fin 64) d rfl (by simp) rfl]
    refine (concatenate_pair_apply_left 1 _ _ h (ix3 a b d) rfl (ix3 a (⟨b.val, by omega⟩ : Fin 63) d) ?_).trans (extractStridedSlice_apply _ _ _ _ _ ?_)
    · intro k; match k with
      | ⟨0, _⟩ => rfl
      | ⟨1, _⟩ => rfl
      | ⟨2, _⟩ => rfl
    · intro k; match k with
      | ⟨0, _⟩ => show a.val = 0 + a.val; omega
      | ⟨1, _⟩ => show b.val + 1 = 1 + b.val; omega
      | ⟨2, _⟩ => show d.val = 0 + d.val; omega
theorem lowZ (z : S64x64x1.Idx → EReal) (hz : ∀ i, z i = 0) (hs : S64x64x64.Slices ![0, 0, 0] S64x64x63) (h : Shape.Concatenates [S64x64x1, S64x64x63] S64x64x64 2) (a b d : Fin 64) :
    concatenate S64x64x64 2 [⟨S64x64x1, z⟩, ⟨S64x64x63, extractStridedSlice S64x64x63 ![0, 0, 0] w hs⟩] h (ix3 a b d) = rd w a.val b.val (d.val - 1) := by
  by_cases e : d.val = 0
  · rw [rd_out w (by omega)]
    refine (concatenate_pair_apply_left 2 _ _ h (ix3 a b d) rfl (ix3 a b (0 : Fin 1)) ?_).trans (hz _)
    intro k; match k with
    | ⟨0, _⟩ => rfl
    | ⟨1, _⟩ => rfl
    | ⟨2, _⟩ => exact e.symm
  · have hd := d.isLt
    rw [rd_at w a b (⟨d.val - 1, by omega⟩ : Fin 64) rfl rfl (by simp; omega)]
    refine (concatenate_pair_apply_right 2 _ _ h (ix3 a b d) rfl rfl (ix3 a b (⟨d.val - 1, by omega⟩ : Fin 63)) ?_ ?_).trans (extractStridedSlice_apply _ _ _ _ _ ?_)
    · intro k hk; match k, hk with
      | ⟨0, _⟩, _ => rfl
      | ⟨1, _⟩, _ => rfl
      | ⟨2, _⟩, hk => exact absurd rfl hk
    · show d.val - 1 + 1 = d.val; omega
    · intro k; match k with
      | ⟨0, _⟩ => show a.val = 0 + a.val; omega
      | ⟨1, _⟩ => show b.val = 0 + b.val; omega
      | ⟨2, _⟩ => show d.val - 1 = 0 + (d.val - 1); omega
theorem highZ (z : S64x64x1.Idx → EReal) (hz : ∀ i, z i = 0) (hs : S64x64x64.Slices ![0, 0, 1] S64x64x63) (h : Shape.Concatenates [S64x64x63, S64x64x1] S64x64x64 2) (a b d : Fin 64) :
    concatenate S64x64x64 2 [⟨S64x64x63, extractStridedSlice S64x64x63 ![0, 0, 1] w hs⟩, ⟨S64x64x1, z⟩] h (ix3 a b d) = rd w a.val b.val (d.val + 1) := by
  have hd := d.isLt
  by_cases e : d.val = 63
  · rw [rd_out w (by omega)]
    refine (concatenate_pair_apply_right 2 _ _ h (ix3 a b d) rfl rfl (ix3 a b (0 : Fin 1)) ?_ ?_).trans (hz _)
    · intro k hk; match k, hk with
      | ⟨0, _⟩, _ => rfl
      | ⟨1, _⟩, _ => rfl
      | ⟨2, _⟩, hk => exact absurd rfl hk
    · show 0 + 63 = d.val; omega
  · rw [rd_at w a b (⟨d.val + 1, by omega⟩ : Fin 64) rfl rfl (by simp)]
    refine (concatenate_pair_apply_left 2 _ _ h (ix3 a b d) rfl (ix3 a b (⟨d.val, by omega⟩ : Fin 63)) ?_).trans (extractStridedSlice_apply _ _ _ _ _ ?_)
    · intro k; match k with
      | ⟨0, _⟩ => rfl
      | ⟨1, _⟩ => rfl
      | ⟨2, _⟩ => rfl
    · intro k; match k with
      | ⟨0, _⟩ => show a.val = 0 + a.val; omega
      | ⟨1, _⟩ => show b.val = 0 + b.val; omega
      | ⟨2, _⟩ => show d.val + 1 = 1 + d.val; omega
end Move

/-! ## The block's own sums, and the result -/

/-- The six-neighbour sum of an array at a place, less six times the element there. -/
def lap {n m l : ℕ} (w : (⟨3, ![n, m, l]⟩ : Shape).Idx → EReal) (i j k : ℤ) : EReal :=
  rd w (i - 1) j k + rd w (i + 1) j k + rd w i (j - 1) k + rd w i (j + 1) k + rd w i j (k - 1) + rd w i j (k + 1)
    - Ideal.ofBits .f32 0x40C00000#32 * rd w i j k

/-- The two words for six are the same real. -/
theorem six_eq : Ideal.ofBits .bf16 0x40C0#16 = Ideal.ofBits .f32 0x40C00000#32 := by
  simp [Ideal.ofBits, Ideal.ieee, -EReal.coe_mul]; norm_num

/-- Before any plane is added a device's result holds those sums of its own block. -/
theorem b0_apply (x : Vec Ideal S64x64x64 .f32) (a b d : Fin 64) :
    b0 (F := Ideal) x (ix3 a b d) = lap (n := 64) (m := 64) (l := 64) x a.val b.val d.val := by
  have hx : (k0_pay10 (F := Ideal) x : S64x64x64.Idx → EReal) = x := by
    show shapeCast S64x64x64 x _ = x
    exact shapeCast_self _ _
  have hz : ∀ {T : Shape} (i : T.Idx), (broadcast T (Scalar.ofBits (F := Ideal) .bf16 0x0000#16) : T.Idx → EReal) i = 0 := fun i => Ideal.ofBits_zero_bf16
  have h97 : (k0_pay11 (F := Ideal) x (ix3 a b d) : EReal)
      = rd (n := 64) (m := 64) (l := 64) x (a.val - 1) b.val d.val + rd (n := 64) (m := 64) (l := 64) x (a.val + 1) b.val d.val
        + rd (n := 64) (m := 64) (l := 64) x a.val (b.val - 1) d.val + rd (n := 64) (m := 64) (l := 64) x a.val (b.val + 1) d.val
        + rd (n := 64) (m := 64) (l := 64) x a.val b.val (d.val - 1) + rd (n := 64) (m := 64) (l := 64) x a.val b.val (d.val + 1) := by
    rw [← lowX x _ hz slices_S64x64x64_o0_0_0_S63x64x64 concatenates_S1x64x64_S63x64x64_S64x64x64_d0 a b d,
      ← highX x _ hz slices_S64x64x64_o1_0_0_S63x64x64 concatenates_S63x64x64_S1x64x64_S64x64x64_d0 a b d,
      ← lowY x _ hz slices_S64x64x64_o0_0_0_S64x63x64 concatenates_S64x1x64_S64x63x64_S64x64x64_d1 a b d,
      ← highY x _ hz slices_S64x64x64_o0_1_0_S64x63x64 concatenates_S64x63x64_S64x1x64_S64x64x64_d1 a b d,
      ← lowZ x _ hz slices_S64x64x64_o0_0_0_S64x64x63 concatenates_S64x64x1_S64x64x63_S64x64x64_d2 a b d,
      ← highZ x _ hz slices_S64x64x64_o0_0_1_S64x64x63 concatenates_S64x64x63_S64x64x1_S64x64x64_d2 a b d]
    conv_rhs => rw [← hx]
    rfl
  show (k0_pay11 (F := Ideal) x (ix3 a b d) : EReal) - Ideal.ofBits .bf16 0x40C0#16 * (k0_pay10 (F := Ideal) x : S64x64x64.Idx → EReal) (ix3 a b d) = _
  rw [h97, hx, six_eq]
  unfold lap
  rw [rd_at (n := 64) (m := 64) (l := 64) x (i := a.val) (j := b.val) (k := d.val) a b d rfl rfl rfl]

end Cert.Halo

end
-- ==== Proof.Block.lean ====
/-
What one device's result holds: its block's own sums, the planes of its neighbours added on the faces, zeros on the
faces that lie on the grid's boundary. And that this is the device's block of the sums of the whole array.
-/
module

public import proofs.«01_k».proof.Proof.Reads
public import Mathlib.Tactic.Abel

@[expose] public section

noncomputable section

namespace Cert.Halo

open Cert.KernelIdeal Cert.KernelIdeal.Gen

open Idealize.ShloMosaic
open Idealize.ShloMosaic.TcCoe
open Idealize.ShloMosaic.ValueIdx

/-! ## A device's result, place by place -/

/-- After the six additions: the block's own sums and, on each face, the plane for it. -/
theorem b6_apply (x : Vec Ideal S64x64x64 .f32) (h : Fin 6 → FVec Ideal S1x64x64 .f32) (a b d : Fin 64) :
    b6 (F := Ideal) x h (ix3 a b d)
      = (lap (n := 64) (m := 64) (l := 64) x a.val b.val d.val
        + (if a = 0 then h 0 (ix3 (0 : Fin 1) b d) else 0) + (if a = 63 then h 1 (ix3 (0 : Fin 1) b d) else 0)
        + (if b = 0 then h 2 (ix3 (0 : Fin 1) a d) else 0) + (if b = 63 then h 3 (ix3 (0 : Fin 1) a d) else 0)
        + (if d = 0 then h 4 (ix3 (0 : Fin 1) a b) else 0) + (if d = 63 then h 5 (ix3 (0 : Fin 1) a b) else 0) : EReal) := by
  have e1 := addX 0 inb_S64x64x64_S1x64x64_0_0_0 (b0 (F := Ideal) x) (h 0) a b d
  have e2 := addX 63 inb_S64x64x64_S1x64x64_63_0_0 (b1 (F := Ideal) x h) (h 1) a b d
  have e3 := addY 0 inb_S64x64x64_S64x1x64_0_0_0 (b2 (F := Ideal) x h) (h 2) a b d
  have e4 := addY 63 inb_S64x64x64_S64x1x64_0_63_0 (b3 (F := Ideal) x h) (h 3) a b d
  have e5 := addZ 0 inb_S64x64x64_S64x64x1_0_0_0 (b4 (F := Ideal) x h) (h 4) a b d
  have e6 := addZ 63 inb_S64x64x64_S64x64x1_0_0_63 (b5 (F := Ideal) x h) (h 5) a b d
  refine Eq.trans e6 ?_
  refine congrArg (· + _) (Eq.trans e5 ?_)
  refine congrArg (· + _) (Eq.trans e4 ?_)
  refine congrArg (· + _) (Eq.trans e3 ?_)
  refine congrArg (· + _) (Eq.trans e2 ?_)
  refine congrArg (· + _) (Eq.trans e1 ?_)
  exact congrArg (· + _) (b0_apply x a b d)

/-- A face of zeros stored when a condition holds. -/
theorem clrX (q : Prop) [Decidable q] (p h) (g : FVec Ideal S1x64x64 .f32) (hg : ∀ b d, g (ix3 (0 : Fin 1) b d) = (0 : EReal)) (f : Vec Ideal S64x64x64 .f32) (a b d : Fin 64) :
    clr q (rX p h) g f (ix3 a b d) = if q ∧ a = p then (0 : EReal) else f (ix3 a b d) := by
  unfold clr
  by_cases e : q
  · rw [if_pos e, stX, hg]; simp only [e, true_and]
  · rw [if_neg e, if_neg (fun h => e h.1)]
theorem clrY (q : Prop) [Decidable q] (p h) (g : FVec Ideal S64x1x64 .f32) (hg : ∀ b d, g (ix3 b (0 : Fin 1) d) = (0 : EReal)) (f : Vec Ideal S64x64x64 .f32) (a b d : Fin 64) :
    clr q (rY p h) g f (ix3 a b d) = if q ∧ b = p then (0 : EReal) else f (ix3 a b d) := by
  unfold clr
  by_cases e : q
  · rw [if_pos e, stY, hg]; simp only [e, true_and]
  · rw [if_neg e, if_neg (fun h => e h.1)]
theorem clrZ (q : Prop) [Decidable q] (p h) (g : FVec Ideal S64x64x1 .f32) (hg : ∀ b d, g (ix3 b d (0 : Fin 1)) = (0 : EReal)) (f : Vec Ideal S64x64x64 .f32) (a b d : Fin 64) :
    clr q (rZ p h) g f (ix3 a b d) = if q ∧ d = p then (0 : EReal) else f (ix3 a b d) := by
  unfold clr
  by_cases e : q
  · rw [if_pos e, stZ, hg]; simp only [e, true_and]
  · rw [if_neg e, if_neg (fun h => e h.1)]

theorem zero20 (i : S64x64.Idx) : k0_pay20 (F := Ideal) i = (0 : EReal) := Ideal.ofBits_zero_f32
theorem zero21 (p q : Fin 64) : k0_pay21 (F := Ideal) (ix3 (0 : Fin 1) p q) = (0 : EReal) := (put0 _ _ p q).trans (zero20 _)
theorem zero23 (p q : Fin 64) : k0_pay23 (F := Ideal) (ix3 p (0 : Fin 1) q) = (0 : EReal) := (put1 _ _ p q).trans (zero20 _)
theorem zero1 (p q : Fin 64) : k0_pay1 (F := Ideal) k0_pay20 (ix3 p q (0 : Fin 1)) = (0 : EReal) := (put2 _ _ p q).trans (zero20 _)

/-- The place lies on a face of device `c`'s block that is on the grid's boundary. -/
def onRim (c : Dev nD) (a b d : Fin 64) : Prop :=
  (has 0 c ∧ a = 0) ∨ (has 1 c ∧ a = 63) ∨ (has 2 c ∧ b = 0) ∨ (has 3 c ∧ b = 63) ∨ (¬ has 5 c ∧ d = 0) ∨ (¬ has 4 c ∧ d = 63)

/-- On such a face the result is zero; -/
theorem b8_rim (c : Dev nD) (x : Vec Ideal S64x64x64 .f32) (h : Fin 6 → FVec Ideal S1x64x64 .f32) (a b d : Fin 64)
    (hr : onRim c a b d) : b8 (F := Ideal) c x h (ix3 a b d) = (0 : EReal) := by
  have e1 := clrX (has 0 c) 0 inb_S64x64x64_S1x64x64_0_0_0 (k0_pay21 (F := Ideal)) zero21 (b6 x h) a b d
  have e2 := clrX (has 1 c) 63 inb_S64x64x64_S1x64x64_63_0_0 (k0_pay22 (F := Ideal)) zero21 (clr (has 0 c) rX0 k0_pay21 (b6 x h)) a b d
  have e3 := clrY (has 2 c) 0 inb_S64x64x64_S64x1x64_0_0_0 (k0_pay23 (F := Ideal)) zero23 (clr (has 1 c) rX1 k0_pay22 (clr (has 0 c) rX0 k0_pay21 (b6 x h))) a b d
  have e4 := clrY (has 3 c) 63 inb_S64x64x64_S64x1x64_0_63_0 (k0_pay24 (F := Ideal)) zero23 (clr (has 2 c) rY0 k0_pay23 (clr (has 1 c) rX1 k0_pay22 (clr (has 0 c) rX0 k0_pay21 (b6 x h)))) a b d
  have e5 := clrZ (¬ has 5 c) 0 inb_S64x64x64_S64x64x1_0_0_0 (k0_pay1 (F := Ideal) k0_pay20) zero1 (b7 c x h) a b d
  have e6 := clrZ (¬ has 4 c) 63 inb_S64x64x64_S64x64x1_0_0_63 (k0_pay2 (F := Ideal) k0_pay20) zero1 (clr (¬ has 5 c) rZ0 (k0_pay1 k0_pay20) (b7 c x h)) a b d
  refine Eq.trans e6 ?_
  by_cases q6 : ¬ has 4 c ∧ d = 63
  · exact if_pos q6
  refine (if_neg q6).trans (Eq.trans e5 ?_)
  by_cases q5 : ¬ has 5 c ∧ d = 0
  · exact if_pos q5
  refine (if_neg q5).trans (Eq.trans e4 ?_)
  by_cases q4 : has 3 c ∧ b = 63
  · exact if_pos q4
  refine (if_neg q4).trans (Eq.trans e3 ?_)
  by_cases q3 : has 2 c ∧ b = 0
  · exact if_pos q3
  refine (if_neg q3).trans (Eq.trans e2 ?_)
  by_cases q2 : has 1 c ∧ a = 63
  · exact if_pos q2
  refine (if_neg q2).trans (Eq.trans e1 ?_)
  by_cases q1 : has 0 c ∧ a = 0
  · exact if_pos q1
  exact absurd hr (by unfold onRim; tauto)
/-- elsewhere it is what the additions left. -/
theorem b8_inner (c : Dev nD) (x : Vec Ideal S64x64x64 .f32) (h : Fin 6 → FVec Ideal S1x64x64 .f32) (a b d : Fin 64)
    (hr : ¬ onRim c a b d) : b8 (F := Ideal) c x h (ix3 a b d) = b6 x h (ix3 a b d) := by
  unfold onRim at hr
  simp only [not_or] at hr
  obtain ⟨q1, q2, q3, q4, q5, q6⟩ := hr
  have e1 := clrX (has 0 c) 0 inb_S64x64x64_S1x64x64_0_0_0 (k0_pay21 (F := Ideal)) zero21 (b6 x h) a b d
  have e2 := clrX (has 1 c) 63 inb_S64x64x64_S1x64x64_63_0_0 (k0_pay22 (F := Ideal)) zero21 (clr (has 0 c) rX0 k0_pay21 (b6 x h)) a b d
  have e3 := clrY (has 2 c) 0 inb_S64x64x64_S64x1x64_0_0_0 (k0_pay23 (F := Ideal)) zero23 (clr (has 1 c) rX1 k0_pay22 (clr (has 0 c) rX0 k0_pay21 (b6 x h))) a b d
  have e4 := clrY (has 3 c) 63 inb_S64x64x64_S64x1x64_0_63_0 (k0_pay24 (F := Ideal)) zero23 (clr (has 2 c) rY0 k0_pay23 (clr (has 1 c) rX1 k0_pay22 (clr (has 0 c) rX0 k0_pay21 (b6 x h)))) a b d
  have e5 := clrZ (¬ has 5 c) 0 inb_S64x64x64_S64x64x1_0_0_0 (k0_pay1 (F := Ideal) k0_pay20) zero1 (b7 c x h) a b d
  have e6 := clrZ (¬ has 4 c) 63 inb_S64x64x64_S64x64x1_0_0_63 (k0_pay2 (F := Ideal) k0_pay20) zero1 (clr (¬ has 5 c) rZ0 (k0_pay1 k0_pay20) (b7 c x h)) a b d
  exact Eq.trans e6 <| (if_neg q6).trans <| Eq.trans e5 <| (if_neg q5).trans <| Eq.trans e4 <| (if_neg q4).trans <|
    Eq.trans e3 <| (if_neg q3).trans <| Eq.trans e2 <| (if_neg q2).trans <| Eq.trans e1 <| if_neg q1

/-! ## The block of the whole array -/

/-- The whole array's shape. -/
abbrev Whole : Shape := ⟨3, ![128, 128, 256]⟩

/-- Device `c`'s block of the whole array `X`: it starts at 64 times the device's coordinates. -/
def IsBlock (X : Whole.Idx → EReal) (c : Dev nD) (x : S64x64x64.Idx → EReal) : Prop :=
  ∀ (a b d : Fin 64), x (ix3 a b d) = rd (n := 128) (m := 128) (l := 256) X (64 * cx c + a.val : ℤ) (64 * cy c + b.val : ℤ) (64 * cz c + d.val : ℤ)

theorem cx_lt (c : Dev nD) : cx c < 2 := by revert c; decide
theorem cy_lt (c : Dev nD) : cy c < 2 := by revert c; decide
theorem cz_lt (c : Dev nD) : cz c < 4 := by revert c; decide

/-- Where the neighbour stands: one step along the message's axis. -/
theorem peer0 (c : Dev nD) (h : has 0 c) : cx (peer 0 c) = cx c + 1 ∧ cy (peer 0 c) = cy c ∧ cz (peer 0 c) = cz c := by revert c; decide
theorem peer1 (c : Dev nD) (h : has 1 c) : cx (peer 1 c) + 1 = cx c ∧ cy (peer 1 c) = cy c ∧ cz (peer 1 c) = cz c := by revert c; decide
theorem peer2 (c : Dev nD) (h : has 2 c) : cx (peer 2 c) = cx c ∧ cy (peer 2 c) = cy c + 1 ∧ cz (peer 2 c) = cz c := by revert c; decide
theorem peer3 (c : Dev nD) (h : has 3 c) : cx (peer 3 c) = cx c ∧ cy (peer 3 c) + 1 = cy c ∧ cz (peer 3 c) = cz c := by revert c; decide
theorem peer4 (c : Dev nD) (h : has 4 c) : cx (peer 4 c) = cx c ∧ cy (peer 4 c) = cy c ∧ cz (peer 4 c) = cz c + 1 := by revert c; decide
theorem peer5 (c : Dev nD) (h : has 5 c) : cx (peer 5 c) = cx c ∧ cy (peer 5 c) = cy c ∧ cz (peer 5 c) + 1 = cz c := by revert c; decide

/-- The plane of zeros. -/
theorem zpl_apply (i : S1x64x64.Idx) : (zpl (F := Ideal) i : EReal) = 0 := Ideal.ofBits_zero_f32

/-- What the whole-array result holds at a place: zero on the boundary, the sums inside. -/
def sten (X : Whole.Idx → EReal) (i j k : ℤ) : EReal :=
  if (1 ≤ i ∧ i ≤ 126) ∧ (1 ≤ j ∧ j ≤ 126) ∧ (1 ≤ k ∧ k ≤ 254) then lap (n := 128) (m := 128) (l := 256) X i j k else 0

/-- A device's rim is the boundary of the whole array. -/
theorem rim_iff (c : Dev nD) (a b d : Fin 64) : ¬ onRim c a b d ↔ (1 ≤ (64 * cx c + a.val : ℤ) ∧ (64 * cx c + a.val : ℤ) ≤ 126) ∧ (1 ≤ (64 * cy c + b.val : ℤ) ∧ (64 * cy c + b.val : ℤ) ≤ 126)
    ∧ (1 ≤ (64 * cz c + d.val : ℤ) ∧ (64 * cz c + d.val : ℤ) ≤ 254) := by
  have h1 := cx_lt c; have h2 := cy_lt c; have h3 := cz_lt c
  have ha := a.isLt; have hb := b.isLt; have hd := d.isLt
  unfold onRim
  simp only [has, Fin.ext_iff, Fin.val_zero, show ((63 : Fin 64).val) = 63 from rfl]
  omega

section Near
variable {X : Whole.Idx → EReal} {x : Dev nD → Vec Ideal S64x64x64 .f32} (hb : ∀ c, IsBlock X c (x c)) (c : Dev nD) (a b d : Fin 64)
include hb

/-- The element one step aside in the whole array is the block's own or, past the face, the neighbour's plane. -/
theorem near0 : (rd (n := 128) (m := 128) (l := 256) X (64 * cx c + a.val - 1) (64 * cy c + b.val) (64 * cz c + d.val) : EReal)
    = rd (n := 64) (m := 64) (l := 64) (x c) (a.val - 1) b.val d.val + (if a = 0 then got x c 0 (ix3 (0 : Fin 1) b d) else 0) := by
  by_cases e : a = 0
  · subst e
    rw [if_pos rfl, rd_out (n := 64) (m := 64) (l := 64) (x c) (by simp), zero_add]
    by_cases q : has 1 c
    · have hp := peer1 c q
      rw [show got x c 0 = pk (x (peer 1 c)) 0 from if_pos q, pk0, hb (peer 1 c) 63 b d]
      rw [hp.2.1, hp.2.2, show (64 * cx (peer 1 c) + (63 : Fin 64).val : ℤ) = 64 * cx c + (0 : Fin 64).val - 1 from by rw [← hp.1]; push_cast; simp <;> omega]
    · rw [show got x c 0 = zpl from if_neg q, zpl_apply]
      refine rd_out _ (.inl ?_)
      have : cx c ≠ 1 := q
      have := cx_lt c
      simp <;> omega
  · rw [if_neg e, add_zero]
    have e' : a.val ≠ 0 := fun h => e (Fin.ext h)
    have ha := a.isLt
    rw [rd_at (n := 64) (m := 64) (l := 64) (x c) (⟨a.val - 1, by omega⟩ : Fin 64) b d (by simp <;> omega) rfl rfl, hb c _ b d]
    congr 1; simp <;> omega
theorem near1 : (rd (n := 128) (m := 128) (l := 256) X (64 * cx c + a.val + 1) (64 * cy c + b.val) (64 * cz c + d.val) : EReal)
    = rd (n := 64) (m := 64) (l := 64) (x c) (a.val + 1) b.val d.val + (if a = 63 then got x c 1 (ix3 (0 : Fin 1) b d) else 0) := by
  by_cases e : a = 63
  · subst e
    rw [if_pos rfl, rd_out (n := 64) (m := 64) (l := 64) (x c) (by simp), zero_add]
    by_cases q : has 0 c
    · have hp := peer0 c q
      rw [show got x c 1 = pk (x (peer 0 c)) 1 from if_pos q, pk1, hb (peer 0 c) 0 b d]
      rw [hp.2.1, hp.2.2, show (64 * cx (peer 0 c) + (0 : Fin 64).val : ℤ) = 64 * cx c + (63 : Fin 64).val + 1 from by rw [hp.1]; push_cast; simp <;> omega]
    · rw [show got x c 1 = zpl from if_neg q, zpl_apply]
      refine rd_out _ (.inr (.inl ?_))
      have : cx c ≠ 0 := q
      have := cx_lt c
      simp <;> omega
  · rw [if_neg e, add_zero]
    have e' : a.val ≠ 63 := fun h => e (Fin.ext h)
    have ha := a.isLt
    rw [rd_at (n := 64) (m := 64) (l := 64) (x c) (⟨a.val + 1, by omega⟩ : Fin 64) b d (by simp) rfl rfl, hb c _ b d]
    congr 1
theorem near2 : (rd (n := 128) (m := 128) (l := 256) X (64 * cx c + a.val) (64 * cy c + b.val - 1) (64 * cz c + d.val) : EReal)
    = rd (n := 64) (m := 64) (l := 64) (x c) a.val (b.val - 1) d.val + (if b = 0 then got x c 2 (ix3 (0 : Fin 1) a d) else 0) := by
  by_cases e : b = 0
  · subst e
    rw [if_pos rfl, rd_out (n := 64) (m := 64) (l := 64) (x c) (by simp), zero_add]
    by_cases q : has 3 c
    · have hp := peer3 c q
      rw [show got x c 2 = pk (x (peer 3 c)) 2 from if_pos q, pk2, hb (peer 3 c) a 63 d]
      rw [hp.1, hp.2.2, show (64 * cy (peer 3 c) + (63 : Fin 64).val : ℤ) = 64 * cy c + (0 : Fin 64).val - 1 from by rw [← hp.2.1]; push_cast; simp <;> omega]
    · rw [show got x c 2 = zpl from if_neg q, zpl_apply]
      refine rd_out _ (.inr (.inr (.inl ?_)))
      have : cy c ≠ 1 := q
      have := cy_lt c
      simp <;> omega
  · rw [if_neg e, add_zero]
    have e' : b.val ≠ 0 := fun h => e (Fin.ext h)
    have ha := b.isLt
    rw [rd_at (n := 64) (m := 64) (l := 64) (x c) a (⟨b.val - 1, by omega⟩ : Fin 64) d rfl (by simp <;> omega) rfl, hb c a _ d]
    congr 1; simp <;> omega
theorem near3 : (rd (n := 128) (m := 128) (l := 256) X (64 * cx c + a.val) (64 * cy c + b.val + 1) (64 * cz c + d.val) : EReal)
    = rd (n := 64) (m := 64) (l := 64) (x c) a.val (b.val + 1) d.val + (if b = 63 then got x c 3 (ix3 (0 : Fin 1) a d) else 0) := by
  by_cases e : b = 63
  · subst e
    rw [if_pos rfl, rd_out (n := 64) (m := 64) (l := 64) (x c) (by simp), zero_add]
    by_cases q : has 2 c
    · have hp := peer2 c q
      rw [show got x c 3 = pk (x (peer 2 c)) 3 from if_pos q, pk3, hb (peer 2 c) a 0 d]
      rw [hp.1, hp.2.2, show (64 * cy (peer 2 c) + (0 : Fin 64).val : ℤ) = 64 * cy c + (63 : Fin 64).val + 1 from by rw [hp.2.1]; push_cast; simp <;> omega]
    · rw [show got x c 3 = zpl from if_neg q, zpl_apply]
      refine rd_out _ (.inr (.inr (.inr (.inl ?_))))
      have : cy c ≠ 0 := q
      have := cy_lt c
      simp <;> omega
  · rw [if_neg e, add_zero]
    have e' : b.val ≠ 63 := fun h => e (Fin.ext h)
    have ha := b.isLt
    rw [rd_at (n := 64) (m := 64) (l := 64) (x c) a (⟨b.val + 1, by omega⟩ : Fin 64) d rfl (by simp) rfl, hb c a _ d]
    congr 1
theorem near4 : (rd (n := 128) (m := 128) (l := 256) X (64 * cx c + a.val) (64 * cy c + b.val) (64 * cz c + d.val - 1) : EReal)
    = rd (n := 64) (m := 64) (l := 64) (x c) a.val b.val (d.val - 1) + (if d = 0 then got x c 4 (ix3 (0 : Fin 1) a b) else 0) := by
  by_cases e : d = 0
  · subst e
    rw [if_pos rfl, rd_out (n := 64) (m := 64) (l := 64) (x c) (by simp), zero_add]
    by_cases q : has 5 c
    · have hp := peer5 c q
      rw [show got x c 4 = pk (x (peer 5 c)) 4 from if_pos q, pk4, hb (peer 5 c) a b 63]
      rw [hp.1, hp.2.1, show (64 * cz (peer 5 c) + (63 : Fin 64).val : ℤ) = 64 * cz c + (0 : Fin 64).val - 1 from by rw [← hp.2.2]; push_cast; simp <;> omega]
    · rw [show got x c 4 = zpl from if_neg q, zpl_apply]
      refine rd_out _ (.inr (.inr (.inr (.inr (.inl ?_)))))
      have : ¬ 0 < cz c := q
      have := cz_lt c
      simp <;> omega
  · rw [if_neg e, add_zero]
    have e' : d.val ≠ 0 := fun h => e (Fin.ext h)
    have ha := d.isLt
    rw [rd_at (n := 64) (m := 64) (l := 64) (x c) a b (⟨d.val - 1, by omega⟩ : Fin 64) rfl rfl (by simp <;> omega), hb c a b _]
    congr 1; simp <;> omega
theorem near5 : (rd (n := 128) (m := 128) (l := 256) X (64 * cx c + a.val) (64 * cy c + b.val) (64 * cz c + d.val + 1) : EReal)
    = rd (n := 64) (m := 64) (l := 64) (x c) a.val b.val (d.val + 1) + (if d = 63 then got x c 5 (ix3 (0 : Fin 1) a b) else 0) := by
  by_cases e : d = 63
  · subst e
    rw [if_pos rfl, rd_out (n := 64) (m := 64) (l := 64) (x c) (by simp), zero_add]
    by_cases q : has 4 c
    · have hp := peer4 c q
      rw [show got x c 5 = pk (x (peer 4 c)) 5 from if_pos q, pk5, hb (peer 4 c) a b 0]
      rw [hp.1, hp.2.1, show (64 * cz (peer 4 c) + (0 : Fin 64).val : ℤ) = 64 * cz c + (63 : Fin 64).val + 1 from by rw [hp.2.2]; push_cast; simp <;> omega]
    · rw [show got x c 5 = zpl from if_neg q, zpl_apply]
      refine rd_out _ (.inr (.inr (.inr (.inr (.inr ?_)))))
      have : ¬ cz c < 3 := q
      have := cz_lt c
      simp <;> omega
  · rw [if_neg e, add_zero]
    have e' : d.val ≠ 63 := fun h => e (Fin.ext h)
    have ha := d.isLt
    rw [rd_at (n := 64) (m := 64) (l := 64) (x c) a b (⟨d.val + 1, by omega⟩ : Fin 64) rfl rfl (by simp), hb c a b _]
    congr 1

/-- Every device's result is its block of the whole-array result. -/
theorem outv_apply : (outv (F := Ideal) x c (ix3 a b d) : EReal) = sten X (64 * cx c + a.val) (64 * cy c + b.val) (64 * cz c + d.val) := by
  unfold outv sten
  by_cases hr : onRim c a b d
  · rw [b8_rim _ _ _ _ _ _ hr, if_neg (fun h => (rim_iff c a b d).mpr h hr)]
  · rw [b8_inner _ _ _ _ _ _ hr, if_pos ((rim_iff c a b d).mp hr), b6_apply]
    unfold lap
    rw [near0 hb c a b d, near1 hb c a b d, near2 hb c a b d, near3 hb c a b d, near4 hb c a b d, near5 hb c a b d, ← hb c a b d,
      rd_at (n := 64) (m := 64) (l := 64) (x c) (i := a.val) (j := b.val) (k := d.val) a b d rfl rfl rfl]
    simp only [sub_eq_add_neg]
    generalize -(Ideal.ofBits .f32 0x40C00000#32 * x c (ix3 a b d) : EReal) = t
    abel
end Near

end Cert.Halo

end
-- ==== Proof.Reference.lean ====
/-
What the reference computes: zeros, with the sums written over everything but the outermost layer.
-/
module

public import proofs.«01_k».proof.Proof.Block
public import proofs.«01_k».proof.Proof.Gen.ReferenceIdeal.Run
public import Idealize.ShloMosaic.Lib.Routing.OpsSet
public import Idealize.ShloMosaic.Lib.Pointwise.SelectCore

@[expose] public section

noncomputable section

namespace Cert.Halo

open Idealize.ShloMosaic
open Idealize.ShloMosaic.TcCoe
open Cert.ReferenceIdeal Cert.ReferenceIdeal.Gen

/-- The three start indices of the write: ones. -/
def ones3 : IVec S3 32 :=
  concatenate S3 0 [⟨S1, (broadcastInDim S1 ![] bcast_S_S1 (constantI S_ 32 1#32))⟩, ⟨S1, (broadcastInDim S1 ![] bcast_S_S1 (constantI S_ 32 1#32))⟩,
    ⟨S1, (broadcastInDim S1 ![] bcast_S_S1 (constantI S_ 32 1#32))⟩] concatenates_S1_S1_S1_S3_d0

theorem ones3_apply (i : S3.Idx) : ones3 i = 1#32 := by
  unfold ones3
  refine concatenate_forall (P := fun v => v = 1#32) _ _ _ _ ?_ i
  intro p hp
  simp only [List.mem_cons, List.mem_singleton, List.not_mem_nil, or_false] at hp
  rcases hp with rfl | rfl | rfl <;> exact fun _ => rfl

/-- The update at `(p, q, r)` lands one further along every axis. -/
theorem lands (k : S126x126x254.Idx) : scatter_S128x128x256_S3_S126x126x254_012_n_012_0.resultIdx? k ones3
    = some (ValueIdx.ix3 (⟨(k 0).val + 1, by have := (k 0).isLt; change _ < 126 at this; omega⟩ : Fin 128) (⟨(k 1).val + 1, by have := (k 1).isLt; change _ < 126 at this; omega⟩ : Fin 128) (⟨(k 2).val + 1, by have := (k 2).isLt; change _ < 254 at this; omega⟩ : Fin 256)) := by
  have hs : ∀ a, scatter_S128x128x256_S3_S126x126x254_012_n_012_0.start k ones3 a = 1 := by
    intro a
    unfold ScatterDims.start
    rw [dif_pos (by revert a; decide), ones3_apply]
    decide
  have h0 : scatter_S128x128x256_S3_S126x126x254_012_n_012_0.window k 0 = (k 0).val := rfl
  have h1 : scatter_S128x128x256_S3_S126x126x254_012_n_012_0.window k 1 = (k 1).val := rfl
  have h2 : scatter_S128x128x256_S3_S126x126x254_012_n_012_0.window k 2 = (k 2).val := rfl
  have b0 := (k 0).isLt; change _ < 126 at b0
  have b1 := (k 1).isLt; change _ < 126 at b1
  have b2 := (k 2).isLt; change _ < 254 at b2
  unfold ScatterDims.resultIdx?
  rw [dif_pos (by
    intro a
    rw [hs a]
    match a with
    | ⟨0, _⟩ => show 0 ≤ (1 : ℤ) + (scatter_S128x128x256_S3_S126x126x254_012_n_012_0.window k 0 : ℕ) ∧ (1 : ℤ) + (scatter_S128x128x256_S3_S126x126x254_012_n_012_0.window k 0 : ℕ) < (128 : ℕ); rw [h0]; omega
    | ⟨1, _⟩ => show 0 ≤ (1 : ℤ) + (scatter_S128x128x256_S3_S126x126x254_012_n_012_0.window k 1 : ℕ) ∧ (1 : ℤ) + (scatter_S128x128x256_S3_S126x126x254_012_n_012_0.window k 1 : ℕ) < (128 : ℕ); rw [h1]; omega
    | ⟨2, _⟩ => show 0 ≤ (1 : ℤ) + (scatter_S128x128x256_S3_S126x126x254_012_n_012_0.window k 2 : ℕ) ∧ (1 : ℤ) + (scatter_S128x128x256_S3_S126x126x254_012_n_012_0.window k 2 : ℕ) < (256 : ℕ); rw [h2]; omega)]
  refine congrArg some (funext fun a => Fin.ext ?_)
  show (scatter_S128x128x256_S3_S126x126x254_012_n_012_0.start k ones3 a + (scatter_S128x128x256_S3_S126x126x254_012_n_012_0.window k a : ℕ)).toNat = _
  rw [hs a]
  match a with
  | ⟨0, _⟩ => show ((1 : ℤ) + (scatter_S128x128x256_S3_S126x126x254_012_n_012_0.window k 0 : ℕ)).toNat = (k 0).val + 1; rw [h0]; omega
  | ⟨1, _⟩ => show ((1 : ℤ) + (scatter_S128x128x256_S3_S126x126x254_012_n_012_0.window k 1 : ℕ)).toNat = (k 1).val + 1; rw [h1]; omega
  | ⟨2, _⟩ => show ((1 : ℤ) + (scatter_S128x128x256_S3_S126x126x254_012_n_012_0.window k 2 : ℕ)).toNat = (k 2).val + 1; rw [h2]; omega

/-- What the reference leaves, from the whole array. -/
def refv (X : Whole.Idx → EReal) : Whole.Idx → EReal :=
  Host.scatter scatter_S128x128x256_S3_S126x126x254_012_n_012_0 (fun _ b => b) (broadcastInDim S128x128x256 ![] bcast_S_S128x128x256 (constant (F := Ideal) S_ .f32 0x00000000#32)) ones3
    (subf (F := Ideal) (φ := .f32) (addf (addf (addf (addf (addf (extractStridedSlice S126x126x254 ![0, 1, 1] X slices_S128x128x256_S126x126x254_0_1_1) (extractStridedSlice S126x126x254 ![2, 1, 1] X slices_S128x128x256_S126x126x254_2_1_1))
      (extractStridedSlice S126x126x254 ![1, 0, 1] X slices_S128x128x256_S126x126x254_1_0_1)) (extractStridedSlice S126x126x254 ![1, 2, 1] X slices_S128x128x256_S126x126x254_1_2_1))
      (extractStridedSlice S126x126x254 ![1, 1, 0] X slices_S128x128x256_S126x126x254_1_1_0)) (extractStridedSlice S126x126x254 ![1, 1, 2] X slices_S128x128x256_S126x126x254_1_1_2))
      (mulf (broadcastInDim S126x126x254 ![] bcast_S_S126x126x254 (constant S_ .f32 0x40C00000#32)) (extractStridedSlice S126x126x254 ![1, 1, 1] X slices_S128x128x256_S126x126x254_1_1_1)))

/-- The array from `o` on, read as the whole array. -/
theorem slice_apply (X : Whole.Idx → EReal) (o p q : ℕ) (h : Whole.Slices ![o, p, q] S126x126x254) (k : S126x126x254.Idx) (i j l : ℤ)
    (ho : o ≤ 2) (hp : p ≤ 2) (hq : q ≤ 2)
    (hi : i = (k 0).val + o) (hj : j = (k 1).val + p) (hl : l = (k 2).val + q) :
    extractStridedSlice S126x126x254 ![o, p, q] X h k = rd (n := 128) (m := 128) (l := 256) X i j l := by
  have b0 := (k 0).isLt; change _ < 126 at b0
  have b1 := (k 1).isLt; change _ < 126 at b1
  have b2 := (k 2).isLt; change _ < 254 at b2
  subst hi hj hl
  rw [rd_at (n := 128) (m := 128) (l := 256) X (⟨(k 0).val + o, by omega⟩ : Fin 128) (⟨(k 1).val + p, by omega⟩ : Fin 128) (⟨(k 2).val + q, by omega⟩ : Fin 256)
    (by push_cast; rfl) (by push_cast; rfl) (by push_cast; rfl)]
  refine extractStridedSlice_apply _ _ _ _ _ ?_
  intro a
  match a with
  | ⟨0, _⟩ => exact Nat.add_comm _ _
  | ⟨1, _⟩ => exact Nat.add_comm _ _
  | ⟨2, _⟩ => exact Nat.add_comm _ _

/-- The reference is zero on the outermost layer and the sums inside. -/
theorem refv_apply (X : Whole.Idx → EReal) (i : Fin 128) (j : Fin 128) (k : Fin 256) : refv X (ValueIdx.ix3 i j k) = sten X i.val j.val k.val := by
  unfold sten
  have bi := i.isLt; have bj := j.isLt; have bk := k.isLt
  by_cases h : (1 ≤ (i.val : ℤ) ∧ (i.val : ℤ) ≤ 126) ∧ (1 ≤ (j.val : ℤ) ∧ (j.val : ℤ) ≤ 126) ∧ (1 ≤ (k.val : ℤ) ∧ (k.val : ℤ) ≤ 254)
  · rw [if_pos h]
    have key : ∀ t : S126x126x254.Idx, scatter_S128x128x256_S3_S126x126x254_012_n_012_0.resultIdx? t ones3 = some (ValueIdx.ix3 i j k) →
        (t 0).val + 1 = i.val ∧ (t 1).val + 1 = j.val ∧ (t 2).val + 1 = k.val := by
      intro t ht
      rw [lands t] at ht
      have e := Option.some.inj ht
      exact ⟨congrArg (fun f : Whole.Idx => (f 0).val) e, congrArg (fun f : Whole.Idx => (f 1).val) e, congrArg (fun f : Whole.Idx => (f 2).val) e⟩
    unfold refv
    refine Routing.scatter_set_hit _ _ _ _ _ _ ?_ (ValueIdx.ix3 (⟨i.val - 1, by omega⟩ : Fin 126) (⟨j.val - 1, by omega⟩ : Fin 126) (⟨k.val - 1, by omega⟩ : Fin 254)) ?_
    · intro t ht
      obtain ⟨e0, e1, e2⟩ := key t ht
      unfold lap
      rw [← slice_apply X 0 1 1 slices_S128x128x256_S126x126x254_0_1_1 t (i.val - 1) j.val k.val (by omega) (by omega) (by omega) (by omega) (by omega) (by omega),
        ← slice_apply X 2 1 1 slices_S128x128x256_S126x126x254_2_1_1 t (i.val + 1) j.val k.val (by omega) (by omega) (by omega) (by omega) (by omega) (by omega),
        ← slice_apply X 1 0 1 slices_S128x128x256_S126x126x254_1_0_1 t i.val (j.val - 1) k.val (by omega) (by omega) (by omega) (by omega) (by omega) (by omega),
        ← slice_apply X 1 2 1 slices_S128x128x256_S126x126x254_1_2_1 t i.val (j.val + 1) k.val (by omega) (by omega) (by omega) (by omega) (by omega) (by omega),
        ← slice_apply X 1 1 0 slices_S128x128x256_S126x126x254_1_1_0 t i.val j.val (k.val - 1) (by omega) (by omega) (by omega) (by omega) (by omega) (by omega),
        ← slice_apply X 1 1 2 slices_S128x128x256_S126x126x254_1_1_2 t i.val j.val (k.val + 1) (by omega) (by omega) (by omega) (by omega) (by omega) (by omega),
        ← slice_apply X 1 1 1 slices_S128x128x256_S126x126x254_1_1_1 t i.val j.val k.val (by omega) (by omega) (by omega) (by omega) (by omega) (by omega)]
      rfl
    · rw [lands]
      refine congrArg some ?_
      funext a
      apply Fin.ext
      match a with
      | ⟨0, _⟩ => show i.val - 1 + 1 = i.val; omega
      | ⟨1, _⟩ => show j.val - 1 + 1 = j.val; omega
      | ⟨2, _⟩ => show k.val - 1 + 1 = k.val; omega
  · rw [if_neg h]
    unfold refv
    refine (Routing.scatter_set_miss _ _ _ _ _ ?_).trans ?_
    · intro t ht
      rw [lands t] at ht
      have e := Option.some.inj ht
      have e0 : (t 0).val + 1 = i.val := congrArg (fun f : Whole.Idx => (f 0).val) e
      have e1 : (t 1).val + 1 = j.val := congrArg (fun f : Whole.Idx => (f 1).val) e
      have e2 : (t 2).val + 1 = k.val := congrArg (fun f : Whole.Idx => (f 2).val) e
      have b0 := (t 0).isLt; change _ < 126 at b0
      have b1 := (t 1).isLt; change _ < 126 at b1
      have b2 := (t 2).isLt; change _ < 254 at b2
      omega
    · exact Ideal.ofBits_zero_f32

end Cert.Halo

end
-- ==== Proof.Equation.lean ====
/-
The equation: over exact values every device's result is its block of the reference's result.
-/
module

public import proofs.«01_k».proof.Proof.Frames
public import proofs.«01_k».proof.Proof.Reference

@[expose] public section

noncomputable section

namespace Cert.Halo

open Idealize.ShloMosaic
open Idealize.ShloMosaic.TcCoe
open Idealize.SL.Sem

/-! ## What a device's buffers hold -/

section Buffers
open Cert.KernelIdeal Cert.KernelIdeal.Gen
variable {F : FTy → Type} [FloatOps F] (m : (ℓ : Loc nD τ sig) → Buf (Elt F) ℓ) (ρ : Dev nD → PrngReg)

/-- The argument's one block is the whole of a device's argument. -/
theorem xs_eq (c : Dev nD) : xs m c = m ((c.tc : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _

/-- The result's one block is the whole of a device's result, and holds what the body left. -/
theorem finalA_o (c : Dev nD) : finalA m ρ c (1 : Fin 2) = outv (xs m) c := by
  have hr := fun f => Memref.read_access_unit_zero (Elt F) main_v1 (off := fun a => (win0_1.index (0 : Fin 1)) a * main_v1.ty.shape.size a)
    (funext fun a => by fin_cases a <;> decide) (fun a => by fin_cases a <;> decide) f
  refine (hr _).symm.trans ?_
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

end Buffers

/-! ## A device's block of a whole array -/

/-- A device's block coordinates on the mesh. -/
theorem mesh0 (c : Dev Cert.KernelIdeal.nD) : Layout.meshLin [2, 2, 4] c.val [0] = cx c := by revert c; decide
theorem mesh1 (c : Dev Cert.KernelIdeal.nD) : Layout.meshLin [2, 2, 4] c.val [1] = cy c := by revert c; decide
theorem mesh2 (c : Dev Cert.KernelIdeal.nD) : Layout.meshLin [2, 2, 4] c.val [2] = cz c := by revert c; decide

/-- A device's block of the whole array, read at a place: the array at 64 times the device's coordinates and on. -/
theorem block_apply (c : Dev Cert.KernelIdeal.nD) (X : Whole.Idx → EReal) (i : Fin 128) (j : Fin 128) (k : Fin 256) (a b d : Fin 64)
    (hi : i.val = cx c * 64 + a.val) (hj : j.val = cy c * 64 + b.val) (hk : k.val = cz c * 64 + d.val) :
    (Layout.blockN ⟨3, ![64, 64, 64]⟩ ⟨3, ![128, 128, 256]⟩ (Layout.meshBlock [2, 2, 4] ![[0], [1], [2]] c) X : (⟨3, ![64, 64, 64]⟩ : Shape).Idx → EReal) (ValueIdx.ix3 a b d) = X (ValueIdx.ix3 i j k) := by
  rw [Layout.blockN_apply]
  refine congrArg X (funext fun e => Fin.ext ?_)
  rw [Layout.TilesN.idx_val]
  match e with
  | ⟨0, _⟩ => show Layout.meshLin [2, 2, 4] c.val [0] * 64 + a.val = i.val; rw [mesh0, hi]
  | ⟨1, _⟩ => show Layout.meshLin [2, 2, 4] c.val [1] * 64 + b.val = j.val; rw [mesh1, hj]
  | ⟨2, _⟩ => show Layout.meshLin [2, 2, 4] c.val [2] * 64 + d.val = k.val; rw [mesh2, hk]

/-- Where a device's place lies in the whole array. -/
theorem place (c : Dev Cert.KernelIdeal.nD) (a b d : Fin 64) : ∃ (i : Fin 128) (j : Fin 128) (k : Fin 256),
    i.val = cx c * 64 + a.val ∧ j.val = cy c * 64 + b.val ∧ k.val = cz c * 64 + d.val := by
  have h1 := cx_lt c; have h2 := cy_lt c; have h3 := cz_lt c
  exact ⟨⟨cx c * 64 + a.val, by omega⟩, ⟨cy c * 64 + b.val, by omega⟩, ⟨cz c * 64 + d.val, by omega⟩, rfl, rfl, rfl⟩

/-- The claim's block is the block of `IsBlock`. -/
theorem isBlock (c : Dev Cert.KernelIdeal.nD) (X : Whole.Idx → EReal) :
    IsBlock X c (Layout.blockN ⟨3, ![64, 64, 64]⟩ ⟨3, ![128, 128, 256]⟩ (Layout.meshBlock [2, 2, 4] ![[0], [1], [2]] c) X) := by
  intro a b d
  obtain ⟨i, j, k, hi, hj, hk⟩ := place c a b d
  rw [block_apply c X i j k a b d hi hj hk]
  exact (rd_at (n := 128) (m := 128) (l := 256) X i j k (by omega) (by omega) (by omega)).symm

/-- The devices' results, from their blocks of `X`, are their blocks of what the reference makes of `X`. -/
theorem outv_block (X : Whole.Idx → EReal) (x : Dev Cert.KernelIdeal.nD → Vec Ideal Cert.KernelIdeal.S64x64x64 .f32) (hx : ∀ c, IsBlock X c (x c)) (c : Dev Cert.KernelIdeal.nD) :
    outv (F := Ideal) x c = Layout.blockN ⟨3, ![64, 64, 64]⟩ ⟨3, ![128, 128, 256]⟩ (Layout.meshBlock [2, 2, 4] ![[0], [1], [2]] c) (refv X) := by
  funext y
  refine (congrArg (outv (F := Ideal) x c) (ValueIdx.eq_ix3 y)).trans (Eq.trans ?_ (congrArg (Layout.blockN ⟨3, ![64, 64, 64]⟩ ⟨3, ![128, 128, 256]⟩ (Layout.meshBlock [2, 2, 4] ![[0], [1], [2]] c) (refv X)) (ValueIdx.eq_ix3 y)).symm)
  obtain ⟨i, j, k, hi, hj, hk⟩ := place c (y 0) (y 1) (y 2)
  refine (outv_apply hx c (y 0) (y 1) (y 2)).trans ?_
  refine Eq.trans ?_ (block_apply c (refv X) i j k (y 0) (y 1) (y 2) hi hj hk).symm
  rw [refv_apply, hi, hj, hk]
  push_cast
  rw [mul_comm (64 : ℤ), mul_comm (64 : ℤ), mul_comm (64 : ℤ)]

/-- Over exact values the kernel on the sixteen devices and the reference on one compute the same array: device `c` ends
    with its block of the reference's result. -/
theorem algebraic : Cert.algebraic_KernelIdeal_ReferenceIdeal := by
  intro m ρ m' ρ' _ hagree
  refine ⟨refv (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono
      (fun _ h c => ⟨(h.1 c (1 : Fin 2)).trans ((finalA_o m ρ c).trans (outv_block _ _ (fun c => ?_) c)), (h.1 c (0 : Fin 2)).trans (finalA_x m ρ c)⟩)
      (run_main (F := Ideal) m ρ)
    rw [xs_eq, hagree c]
    exact isBlock c _
  · exact (θ_run Cert.ReferenceIdeal.defs _ _).mono (fun _ h => h 0) (Cert.ReferenceIdeal.Value.run (F := Ideal) m' ρ')

end Cert.Halo

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Equation

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Halo.frame_Kernel, Cert.Halo.frame_KernelIdeal,
    Cert.Halo.frame_ReferenceIdeal, trivial, Cert.Halo.algebraic⟩

end Cert.Proof

end
